-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x2x512x512 : Shape := ⟨5, ![2, 1, 2, 512, 512]⟩
abbrev S2x2x512x512 : Shape := ⟨4, ![2, 2, 512, 512]⟩
abbrev S4x512x512 : Shape := ⟨3, ![4, 512, 512]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S262144 : Shape := ⟨1, ![262144]⟩
abbrev S1x262144 : Shape := ⟨2, ![1, 262144]⟩
abbrev S4x262144 : Shape := ⟨2, ![4, 262144]⟩
abbrev S1x1 : Shape := ⟨2, ![1, 1]⟩
abbrev S4x5x512x512 : Shape := ⟨4, ![4, 5, 512, 512]⟩
abbrev S2x2x5x512x512 : Shape := ⟨5, ![2, 2, 5, 512, 512]⟩
abbrev S2x512x512 : Shape := ⟨3, ![2, 512, 512]⟩
abbrev S2x5x512x512 : Shape := ⟨4, ![2, 5, 512, 512]⟩
abbrev S512x512 : Shape := ⟨2, ![512, 512]⟩
abbrev S1x512x512 : Shape := ⟨3, ![1, 512, 512]⟩
abbrev S1x1x1 : Shape := ⟨3, ![1, 1, 1]⟩
abbrev S8x512 : Shape := ⟨2, ![8, 512]⟩
abbrev S512x8 : Shape := ⟨2, ![512, 8]⟩
abbrev S1x512 : Shape := ⟨2, ![1, 512]⟩
abbrev S512x1 : Shape := ⟨2, ![512, 1]⟩
abbrev S1x1x512 : Shape := ⟨3, ![1, 1, 512]⟩
abbrev S1x512x1 : Shape := ⟨3, ![1, 512, 1]⟩
abbrev S1x1x512x512 : Shape := ⟨4, ![1, 1, 512, 512]⟩

abbrev nBuf : Space → Nat
  | .hbm => 523
  | .vmem => 6
  | .smem => 0
  | _ => 0

abbrev hbmTy0_0 (i : Nat) : BufTy := match i % 128 with
  | 0 => ⟨S2x1x2x512x512, .f32⟩
  | 1 => ⟨S2x2x512x512, .f32⟩
  | 2 => ⟨S4x512x512, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1, .i32⟩
  | 14 => ⟨S_, .i32⟩
  | 15 => ⟨S1, .i32⟩
  | 16 => ⟨S_, .i32⟩
  | 17 => ⟨S4, .i64⟩
  | 18 => ⟨S_, .i64⟩
  | 19 => ⟨S4, .i64⟩
  | 20 => ⟨S4, .i64⟩
  | 21 => ⟨S_, .i64⟩
  | 22 => ⟨S4, .i64⟩
  | 23 => ⟨S4, .i64⟩
  | 24 => ⟨S4, .i32⟩
  | 25 => ⟨S4, .i32⟩
  | 26 => ⟨S_, .i32⟩
  | 27 => ⟨S_, .i32⟩
  | 28 => ⟨S_, .i32⟩
  | 29 => ⟨S4, .i32⟩
  | 30 => ⟨S4, .i32⟩
  | 31 => ⟨S4, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S4, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S4, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S4, .i32⟩
  | 57 => ⟨S4, .i32⟩
  | 58 => ⟨S4, .i32⟩
  | 59 => ⟨S4, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S4, .i32⟩
  | 102 => ⟨S4, .i32⟩
  | 103 => ⟨S4, .i32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S4, .i32⟩
  | 120 => ⟨S_, .i32⟩
  | 121 => ⟨S4, .i32⟩
  | 122 => ⟨S4, .i32⟩
  | 123 => ⟨S_, .i32⟩
  | 124 => ⟨S4, .i32⟩
  | 125 => ⟨S4, .i32⟩
  | 126 => ⟨S4, .i32⟩
  | 127 => ⟨S4, .i32⟩
  | _ => ⟨S2x1x2x512x512, .f32⟩

abbrev hbmTy0_1 (i : Nat) : BufTy := match i % 128 with
  | 0 => ⟨S4, .i32⟩
  | 1 => ⟨S_, .i32⟩
  | 2 => ⟨S4, .i32⟩
  | 3 => ⟨S4, .i32⟩
  | 4 => ⟨S_, .i32⟩
  | 5 => ⟨S4, .i32⟩
  | 6 => ⟨S4, .i32⟩
  | 7 => ⟨S4, .i32⟩
  | 8 => ⟨S4, .i32⟩
  | 9 => ⟨S4, .i32⟩
  | 10 => ⟨S_, .i32⟩
  | 11 => ⟨S4, .i32⟩
  | 12 => ⟨S4, .i32⟩
  | 13 => ⟨S_, .i32⟩
  | 14 => ⟨S4, .i32⟩
  | 15 => ⟨S4, .i32⟩
  | 16 => ⟨S4, .i32⟩
  | 17 => ⟨S4, .i32⟩
  | 18 => ⟨S4, .i32⟩
  | 19 => ⟨S_, .i32⟩
  | 20 => ⟨S4, .i32⟩
  | 21 => ⟨S4, .i32⟩
  | 22 => ⟨S_, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S4, .i32⟩
  | 30 => ⟨S4, .i32⟩
  | 31 => ⟨S_, .i32⟩
  | 32 => ⟨S4, .i32⟩
  | 33 => ⟨S4, .i32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S4, .i32⟩
  | 42 => ⟨S4, .i32⟩
  | 43 => ⟨S4, .i32⟩
  | 44 => ⟨S_, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .i32⟩
  | 52 => ⟨S4, .i32⟩
  | 53 => ⟨S_, .i32⟩
  | 54 => ⟨S4, .i32⟩
  | 55 => ⟨S4, .i32⟩
  | 56 => ⟨S_, .i32⟩
  | 57 => ⟨S4, .i32⟩
  | 58 => ⟨S4, .i32⟩
  | 59 => ⟨S4, .i32⟩
  | 60 => ⟨S4, .i32⟩
  | 61 => ⟨S4, .i32⟩
  | 62 => ⟨S_, .i32⟩
  | 63 => ⟨S4, .i32⟩
  | 64 => ⟨S4, .i32⟩
  | 65 => ⟨S_, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S4, .i32⟩
  | 74 => ⟨S_, .i32⟩
  | 75 => ⟨S4, .i32⟩
  | 76 => ⟨S4, .i32⟩
  | 77 => ⟨S4, .i32⟩
  | 78 => ⟨S_, .i32⟩
  | 79 => ⟨S4, .i32⟩
  | 80 => ⟨S4, .i32⟩
  | 81 => ⟨S_, .i32⟩
  | 82 => ⟨S4, .i32⟩
  | 83 => ⟨S4, .i32⟩
  | 84 => ⟨S4, .i32⟩
  | 85 => ⟨S4, .i32⟩
  | 86 => ⟨S4, .i32⟩
  | 87 => ⟨S_, .i32⟩
  | 88 => ⟨S4, .i32⟩
  | 89 => ⟨S4, .i32⟩
  | 90 => ⟨S_, .i32⟩
  | 91 => ⟨S4, .i32⟩
  | 92 => ⟨S4, .i32⟩
  | 93 => ⟨S4, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i32⟩
  | 102 => ⟨S4, .i32⟩
  | 103 => ⟨S4, .i32⟩
  | 104 => ⟨S4, .i32⟩
  | 105 => ⟨S_, .i32⟩
  | 106 => ⟨S4, .i32⟩
  | 107 => ⟨S4, .i32⟩
  | 108 => ⟨S_, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S4, .i32⟩
  | 117 => ⟨S_, .i32⟩
  | 118 => ⟨S4, .i32⟩
  | 119 => ⟨S4, .i32⟩
  | 120 => ⟨S4x1, .i32⟩
  | 121 => ⟨S4x1, .i32⟩
  | 122 => ⟨S4x2, .i32⟩
  | 123 => ⟨S_, .f32⟩
  | 124 => ⟨S_, .f32⟩
  | 125 => ⟨S_, .f32⟩
  | 126 => ⟨S_, .f32⟩
  | 127 => ⟨S1, .f32⟩
  | _ => ⟨S2x1x2x512x512, .f32⟩

abbrev hbmTy0_2 (i : Nat) : BufTy := match i % 128 with
  | 0 => ⟨S1, .f32⟩
  | 1 => ⟨S4x1, .i32⟩
  | 2 => ⟨S4, .i32⟩
  | 3 => ⟨S4x1, .i32⟩
  | 4 => ⟨S4, .i32⟩
  | 5 => ⟨S262144, .i64⟩
  | 6 => ⟨S_, .i64⟩
  | 7 => ⟨S262144, .i64⟩
  | 8 => ⟨S262144, .i64⟩
  | 9 => ⟨S_, .i64⟩
  | 10 => ⟨S262144, .i64⟩
  | 11 => ⟨S262144, .i64⟩
  | 12 => ⟨S262144, .i32⟩
  | 13 => ⟨S262144, .i32⟩
  | 14 => ⟨S1x262144, .i32⟩
  | 15 => ⟨S1x262144, .i32⟩
  | 16 => ⟨S4x1, .i32⟩
  | 17 => ⟨S4x1, .i32⟩
  | 18 => ⟨S4x1, .i32⟩
  | 19 => ⟨S_, .i32⟩
  | 20 => ⟨S4x1, .i32⟩
  | 21 => ⟨S4x1, .i32⟩
  | 22 => ⟨S4x262144, .i32⟩
  | 23 => ⟨S4x262144, .i32⟩
  | 24 => ⟨S4x262144, .i32⟩
  | 25 => ⟨S4x262144, .i32⟩
  | 26 => ⟨S4x262144, .i32⟩
  | 27 => ⟨S4x262144, .i32⟩
  | 28 => ⟨S4x262144, .i32⟩
  | 29 => ⟨S_, .i32⟩
  | 30 => ⟨S4x262144, .i32⟩
  | 31 => ⟨S4x262144, .i32⟩
  | 32 => ⟨S_, .i32⟩
  | 33 => ⟨S4x262144, .i32⟩
  | 34 => ⟨S4x262144, .i32⟩
  | 35 => ⟨S4x262144, .i32⟩
  | 36 => ⟨S4x262144, .i32⟩
  | 37 => ⟨S4x262144, .i32⟩
  | 38 => ⟨S_, .i32⟩
  | 39 => ⟨S4x262144, .i32⟩
  | 40 => ⟨S4x262144, .i32⟩
  | 41 => ⟨S_, .i32⟩
  | 42 => ⟨S4x262144, .i32⟩
  | 43 => ⟨S4x262144, .i32⟩
  | 44 => ⟨S4x262144, .i32⟩
  | 45 => ⟨S4x262144, .i32⟩
  | 46 => ⟨S4x262144, .i32⟩
  | 47 => ⟨S_, .i32⟩
  | 48 => ⟨S4x262144, .i32⟩
  | 49 => ⟨S4x262144, .i32⟩
  | 50 => ⟨S_, .i32⟩
  | 51 => ⟨S4x262144, .i32⟩
  | 52 => ⟨S4x262144, .i32⟩
  | 53 => ⟨S4x262144, .i32⟩
  | 54 => ⟨S4x262144, .i32⟩
  | 55 => ⟨S4x262144, .i32⟩
  | 56 => ⟨S_, .i32⟩
  | 57 => ⟨S4x262144, .i32⟩
  | 58 => ⟨S4x262144, .i32⟩
  | 59 => ⟨S_, .i32⟩
  | 60 => ⟨S4x262144, .i32⟩
  | 61 => ⟨S4x262144, .i32⟩
  | 62 => ⟨S4x262144, .i32⟩
  | 63 => ⟨S4x262144, .i32⟩
  | 64 => ⟨S4x262144, .i32⟩
  | 65 => ⟨S4x262144, .i32⟩
  | 66 => ⟨S4x262144, .i32⟩
  | 67 => ⟨S4x262144, .i32⟩
  | 68 => ⟨S_, .i32⟩
  | 69 => ⟨S4x262144, .i32⟩
  | 70 => ⟨S4x262144, .i32⟩
  | 71 => ⟨S4x262144, .i32⟩
  | 72 => ⟨S_, .i32⟩
  | 73 => ⟨S4x262144, .i32⟩
  | 74 => ⟨S4x262144, .i32⟩
  | 75 => ⟨S_, .i32⟩
  | 76 => ⟨S4x262144, .i32⟩
  | 77 => ⟨S4x262144, .i32⟩
  | 78 => ⟨S4x262144, .i32⟩
  | 79 => ⟨S4x262144, .i32⟩
  | 80 => ⟨S4x262144, .i32⟩
  | 81 => ⟨S_, .i32⟩
  | 82 => ⟨S4x262144, .i32⟩
  | 83 => ⟨S4x262144, .i32⟩
  | 84 => ⟨S_, .i32⟩
  | 85 => ⟨S4x262144, .i32⟩
  | 86 => ⟨S4x262144, .i32⟩
  | 87 => ⟨S4x262144, .i32⟩
  | 88 => ⟨S4x262144, .i32⟩
  | 89 => ⟨S4x262144, .i32⟩
  | 90 => ⟨S_, .i32⟩
  | 91 => ⟨S4x262144, .i32⟩
  | 92 => ⟨S4x262144, .i32⟩
  | 93 => ⟨S_, .i32⟩
  | 94 => ⟨S4x262144, .i32⟩
  | 95 => ⟨S4x262144, .i32⟩
  | 96 => ⟨S4x262144, .i32⟩
  | 97 => ⟨S4x262144, .i32⟩
  | 98 => ⟨S4x262144, .i32⟩
  | 99 => ⟨S_, .i32⟩
  | 100 => ⟨S4x262144, .i32⟩
  | 101 => ⟨S4x262144, .i32⟩
  | 102 => ⟨S_, .i32⟩
  | 103 => ⟨S4x262144, .i32⟩
  | 104 => ⟨S4x262144, .i32⟩
  | 105 => ⟨S4x262144, .i32⟩
  | 106 => ⟨S4x262144, .i32⟩
  | 107 => ⟨S4x262144, .i32⟩
  | 108 => ⟨S4x262144, .i32⟩
  | 109 => ⟨S4x262144, .i32⟩
  | 110 => ⟨S4x262144, .i32⟩
  | 111 => ⟨S_, .i32⟩
  | 112 => ⟨S4x262144, .i32⟩
  | 113 => ⟨S4x262144, .i32⟩
  | 114 => ⟨S4x262144, .i32⟩
  | 115 => ⟨S_, .i32⟩
  | 116 => ⟨S4x262144, .i32⟩
  | 117 => ⟨S4x262144, .i32⟩
  | 118 => ⟨S_, .i32⟩
  | 119 => ⟨S4x262144, .i32⟩
  | 120 => ⟨S4x262144, .i32⟩
  | 121 => ⟨S4x262144, .i32⟩
  | 122 => ⟨S4x262144, .i32⟩
  | 123 => ⟨S4x262144, .i32⟩
  | 124 => ⟨S_, .i32⟩
  | 125 => ⟨S4x262144, .i32⟩
  | 126 => ⟨S4x262144, .i32⟩
  | 127 => ⟨S_, .i32⟩
  | _ => ⟨S2x1x2x512x512, .f32⟩

abbrev hbmTy0_3 (i : Nat) : BufTy := match i % 128 with
  | 0 => ⟨S4x262144, .i32⟩
  | 1 => ⟨S4x262144, .i32⟩
  | 2 => ⟨S4x262144, .i32⟩
  | 3 => ⟨S4x262144, .i32⟩
  | 4 => ⟨S4x262144, .i32⟩
  | 5 => ⟨S_, .i32⟩
  | 6 => ⟨S4x262144, .i32⟩
  | 7 => ⟨S4x262144, .i32⟩
  | 8 => ⟨S_, .i32⟩
  | 9 => ⟨S4x262144, .i32⟩
  | 10 => ⟨S4x262144, .i32⟩
  | 11 => ⟨S4x262144, .i32⟩
  | 12 => ⟨S4x262144, .i32⟩
  | 13 => ⟨S4x262144, .i32⟩
  | 14 => ⟨S_, .i32⟩
  | 15 => ⟨S4x262144, .i32⟩
  | 16 => ⟨S4x262144, .i32⟩
  | 17 => ⟨S_, .i32⟩
  | 18 => ⟨S4x262144, .i32⟩
  | 19 => ⟨S4x262144, .i32⟩
  | 20 => ⟨S4x262144, .i32⟩
  | 21 => ⟨S4x262144, .i32⟩
  | 22 => ⟨S4x262144, .i32⟩
  | 23 => ⟨S4x262144, .i32⟩
  | 24 => ⟨S4x262144, .i32⟩
  | 25 => ⟨S4x262144, .i32⟩
  | 26 => ⟨S_, .i32⟩
  | 27 => ⟨S4x262144, .i32⟩
  | 28 => ⟨S4x262144, .i32⟩
  | 29 => ⟨S4x262144, .i32⟩
  | 30 => ⟨S_, .i32⟩
  | 31 => ⟨S4x262144, .i32⟩
  | 32 => ⟨S4x262144, .i32⟩
  | 33 => ⟨S_, .i32⟩
  | 34 => ⟨S4x262144, .i32⟩
  | 35 => ⟨S4x262144, .i32⟩
  | 36 => ⟨S4x262144, .i32⟩
  | 37 => ⟨S4x262144, .i32⟩
  | 38 => ⟨S4x262144, .i32⟩
  | 39 => ⟨S_, .i32⟩
  | 40 => ⟨S4x262144, .i32⟩
  | 41 => ⟨S4x262144, .i32⟩
  | 42 => ⟨S_, .i32⟩
  | 43 => ⟨S4x262144, .i32⟩
  | 44 => ⟨S4x262144, .i32⟩
  | 45 => ⟨S4x262144, .i32⟩
  | 46 => ⟨S4x262144, .i32⟩
  | 47 => ⟨S4x262144, .i32⟩
  | 48 => ⟨S_, .i32⟩
  | 49 => ⟨S4x262144, .i32⟩
  | 50 => ⟨S4x262144, .i32⟩
  | 51 => ⟨S_, .i32⟩
  | 52 => ⟨S4x262144, .i32⟩
  | 53 => ⟨S4x262144, .i32⟩
  | 54 => ⟨S4x262144, .i32⟩
  | 55 => ⟨S4x262144, .i32⟩
  | 56 => ⟨S4x262144, .i32⟩
  | 57 => ⟨S_, .i32⟩
  | 58 => ⟨S4x262144, .i32⟩
  | 59 => ⟨S4x262144, .i32⟩
  | 60 => ⟨S_, .i32⟩
  | 61 => ⟨S4x262144, .i32⟩
  | 62 => ⟨S4x262144, .i32⟩
  | 63 => ⟨S4x262144, .i32⟩
  | 64 => ⟨S4x262144, .i32⟩
  | 65 => ⟨S4x262144, .i32⟩
  | 66 => ⟨S4x262144, .i32⟩
  | 67 => ⟨S4x262144, .i32⟩
  | 68 => ⟨S4x262144, .i32⟩
  | 69 => ⟨S_, .i32⟩
  | 70 => ⟨S4x262144, .i32⟩
  | 71 => ⟨S4x262144, .i32⟩
  | 72 => ⟨S4x262144, .i32⟩
  | 73 => ⟨S_, .i32⟩
  | 74 => ⟨S4x262144, .i32⟩
  | 75 => ⟨S4x262144, .i32⟩
  | 76 => ⟨S_, .i32⟩
  | 77 => ⟨S4x262144, .i32⟩
  | 78 => ⟨S4x262144, .i32⟩
  | 79 => ⟨S4x262144, .i32⟩
  | 80 => ⟨S4x262144, .i32⟩
  | 81 => ⟨S4x262144, .i32⟩
  | 82 => ⟨S_, .i32⟩
  | 83 => ⟨S4x262144, .i32⟩
  | 84 => ⟨S4x262144, .i32⟩
  | 85 => ⟨S_, .i32⟩
  | 86 => ⟨S4x262144, .i32⟩
  | 87 => ⟨S4x262144, .i32⟩
  | 88 => ⟨S4x262144, .i32⟩
  | 89 => ⟨S4x262144, .i32⟩
  | 90 => ⟨S4x262144, .i32⟩
  | 91 => ⟨S_, .i32⟩
  | 92 => ⟨S4x262144, .i32⟩
  | 93 => ⟨S4x262144, .i32⟩
  | 94 => ⟨S_, .i32⟩
  | 95 => ⟨S4x262144, .i32⟩
  | 96 => ⟨S4x262144, .i32⟩
  | 97 => ⟨S4x262144, .i32⟩
  | 98 => ⟨S4x262144, .i32⟩
  | 99 => ⟨S4x262144, .i32⟩
  | 100 => ⟨S_, .i32⟩
  | 101 => ⟨S4x262144, .i32⟩
  | 102 => ⟨S4x262144, .i32⟩
  | 103 => ⟨S_, .i32⟩
  | 104 => ⟨S4x262144, .i32⟩
  | 105 => ⟨S4x262144, .i32⟩
  | 106 => ⟨S4x262144, .i32⟩
  | 107 => ⟨S4x262144, .i32⟩
  | 108 => ⟨S4x262144, .i32⟩
  | 109 => ⟨S4x262144, .i32⟩
  | 110 => ⟨S4x262144, .i32⟩
  | 111 => ⟨S4x262144, .i32⟩
  | 112 => ⟨S_, .i32⟩
  | 113 => ⟨S4x262144, .i32⟩
  | 114 => ⟨S4x262144, .i32⟩
  | 115 => ⟨S4x262144, .i32⟩
  | 116 => ⟨S_, .i32⟩
  | 117 => ⟨S4x262144, .i32⟩
  | 118 => ⟨S4x262144, .i32⟩
  | 119 => ⟨S_, .i32⟩
  | 120 => ⟨S4x262144, .i32⟩
  | 121 => ⟨S4x262144, .i32⟩
  | 122 => ⟨S4x262144, .f32⟩
  | 123 => ⟨S_, .f32⟩
  | 124 => ⟨S4x262144, .f32⟩
  | 125 => ⟨S4x262144, .f32⟩
  | 126 => ⟨S1, .f32⟩
  | 127 => ⟨S1x1, .f32⟩
  | _ => ⟨S2x1x2x512x512, .f32⟩

abbrev hbmTy0_4 (i : Nat) : BufTy := match i % 128 with
  | 0 => ⟨S4x262144, .f32⟩
  | 1 => ⟨S4x262144, .f32⟩
  | 2 => ⟨S1x1, .f32⟩
  | 3 => ⟨S4x262144, .f32⟩
  | 4 => ⟨S4x262144, .f32⟩
  | 5 => ⟨S1x1, .f32⟩
  | 6 => ⟨S4x262144, .f32⟩
  | 7 => ⟨S4x262144, .f32⟩
  | 8 => ⟨S4x512x512, .f32⟩
  | 9 => ⟨S4x5x512x512, .f32⟩
  | 10 => ⟨S2x2x5x512x512, .f32⟩
  | _ => ⟨S2x1x2x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1x2x512x512, .f32⟩

abbrev bufTy : (tb : Table) → Fin (tcTables nBuf tb) → BufTy
  | .hbm, ⟨i, _⟩ => hbmTy i
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x5x512x512, .f32⟩
  | .local _ .vmem, ⟨5, _⟩ => ⟨S2x5x512x512, .f32⟩
  | _, _ => ⟨S2x1x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_c : Ref sig .tc := ⟨.hbm, 3, rfl⟩
abbrev main_call0_c_0 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_c_1 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v9 : Ref sig .tc := ⟨.hbm, 250, rfl⟩
abbrev main_call0_cst : Ref sig .tc := ⟨.hbm, 251, rfl⟩
abbrev main_call0_cst_2 : Ref sig .tc := ⟨.hbm, 252, rfl⟩
abbrev main_call0_call1_v0 : Ref sig .tc := ⟨.hbm, 253, rfl⟩
abbrev main_call0_call1_v1 : Ref sig .tc := ⟨.hbm, 254, rfl⟩
abbrev main_call0_call1_v2 : Ref sig .tc := ⟨.hbm, 255, rfl⟩
abbrev main_call0_call1_v3 : Ref sig .tc := ⟨.hbm, 256, rfl⟩
abbrev main_call0_call1_v4 : Ref sig .tc := ⟨.hbm, 257, rfl⟩
abbrev main_call0_call1_v5 : Ref sig .tc := ⟨.hbm, 258, rfl⟩
abbrev main_call0_call1_v6 : Ref sig .tc := ⟨.hbm, 259, rfl⟩
abbrev main_call0_call1_v7 : Ref sig .tc := ⟨.hbm, 260, rfl⟩
abbrev main_call0_call1_v8 : Ref sig .tc := ⟨.hbm, 261, rfl⟩
abbrev main_call0_call1_c : Ref sig .tc := ⟨.hbm, 262, rfl⟩
abbrev main_call0_call1_v9 : Ref sig .tc := ⟨.hbm, 263, rfl⟩
abbrev main_call0_call1_v10 : Ref sig .tc := ⟨.hbm, 264, rfl⟩
abbrev main_call0_call1_c_0 : Ref sig .tc := ⟨.hbm, 265, rfl⟩
abbrev main_call0_call1_v11 : Ref sig .tc := ⟨.hbm, 266, rfl⟩
abbrev main_call0_call1_v12 : Ref sig .tc := ⟨.hbm, 267, rfl⟩
abbrev main_call0_call1_v13 : Ref sig .tc := ⟨.hbm, 268, rfl⟩
abbrev main_call0_call1_v14 : Ref sig .tc := ⟨.hbm, 269, rfl⟩
abbrev main_call0_call1_v15 : Ref sig .tc := ⟨.hbm, 270, rfl⟩
abbrev main_call0_call1_v16 : Ref sig .tc := ⟨.hbm, 271, rfl⟩
abbrev main_call0_call1_v17 : Ref sig .tc := ⟨.hbm, 272, rfl⟩
abbrev main_call0_call1_v18 : Ref sig .tc := ⟨.hbm, 273, rfl⟩
abbrev main_call0_call1_call0_v0 : Ref sig .tc := ⟨.hbm, 274, rfl⟩
abbrev main_call0_call1_call0_c : Ref sig .tc := ⟨.hbm, 275, rfl⟩
abbrev main_call0_call1_call0_v1 : Ref sig .tc := ⟨.hbm, 276, rfl⟩
abbrev main_call0_call1_call0_v2 : Ref sig .tc := ⟨.hbm, 277, rfl⟩
abbrev main_call0_call1_call0_v3 : Ref sig .tc := ⟨.hbm, 278, rfl⟩
abbrev main_call0_call1_call0_v4 : Ref sig .tc := ⟨.hbm, 279, rfl⟩
abbrev main_call0_call1_call0_v5 : Ref sig .tc := ⟨.hbm, 280, rfl⟩
abbrev main_call0_call1_call0_v6 : Ref sig .tc := ⟨.hbm, 281, rfl⟩
abbrev main_call0_call1_call0_v7 : Ref sig .tc := ⟨.hbm, 282, rfl⟩
abbrev main_call0_call1_call0_v8 : Ref sig .tc := ⟨.hbm, 283, rfl⟩
abbrev main_call0_call1_call0_v9 : Ref sig .tc := ⟨.hbm, 284, rfl⟩
abbrev main_call0_call1_call0_c_0 : Ref sig .tc := ⟨.hbm, 285, rfl⟩
abbrev main_call0_call1_call0_v10 : Ref sig .tc := ⟨.hbm, 286, rfl⟩
abbrev main_call0_call1_call0_v11 : Ref sig .tc := ⟨.hbm, 287, rfl⟩
abbrev main_call0_call1_call0_c_1 : Ref sig .tc := ⟨.hbm, 288, rfl⟩
abbrev main_call0_call1_call0_v12 : Ref sig .tc := ⟨.hbm, 289, rfl⟩
abbrev main_call0_call1_call0_v13 : Ref sig .tc := ⟨.hbm, 290, rfl⟩
abbrev main_call0_call1_call0_v14 : Ref sig .tc := ⟨.hbm, 291, rfl⟩
abbrev main_call0_call1_call0_v15 : Ref sig .tc := ⟨.hbm, 292, rfl⟩
abbrev main_call0_call1_call0_v16 : Ref sig .tc := ⟨.hbm, 293, rfl⟩
abbrev main_call0_call1_call0_c_2 : Ref sig .tc := ⟨.hbm, 294, rfl⟩
abbrev main_call0_call1_call0_v17 : Ref sig .tc := ⟨.hbm, 295, rfl⟩
abbrev main_call0_call1_call0_v18 : Ref sig .tc := ⟨.hbm, 296, rfl⟩
abbrev main_call0_call1_call0_c_3 : Ref sig .tc := ⟨.hbm, 297, rfl⟩
abbrev main_call0_call1_call0_v19 : Ref sig .tc := ⟨.hbm, 298, rfl⟩
abbrev main_call0_call1_call0_v20 : Ref sig .tc := ⟨.hbm, 299, rfl⟩
abbrev main_call0_call1_call0_v21 : Ref sig .tc := ⟨.hbm, 300, rfl⟩
abbrev main_call0_call1_call0_v22 : Ref sig .tc := ⟨.hbm, 301, rfl⟩
abbrev main_call0_call1_call0_v23 : Ref sig .tc := ⟨.hbm, 302, rfl⟩
abbrev main_call0_call1_call0_c_4 : Ref sig .tc := ⟨.hbm, 303, rfl⟩
abbrev main_call0_call1_call0_v24 : Ref sig .tc := ⟨.hbm, 304, rfl⟩
abbrev main_call0_call1_call0_v25 : Ref sig .tc := ⟨.hbm, 305, rfl⟩
abbrev main_call0_call1_call0_c_5 : Ref sig .tc := ⟨.hbm, 306, rfl⟩
abbrev main_call0_call1_call0_v26 : Ref sig .tc := ⟨.hbm, 307, rfl⟩
abbrev main_call0_call1_call0_v27 : Ref sig .tc := ⟨.hbm, 308, rfl⟩
abbrev main_call0_call1_call0_v28 : Ref sig .tc := ⟨.hbm, 309, rfl⟩
abbrev main_call0_call1_call0_v29 : Ref sig .tc := ⟨.hbm, 310, rfl⟩
abbrev main_call0_call1_call0_v30 : Ref sig .tc := ⟨.hbm, 311, rfl⟩
abbrev main_call0_call1_call0_c_6 : Ref sig .tc := ⟨.hbm, 312, rfl⟩
abbrev main_call0_call1_call0_v31 : Ref sig .tc := ⟨.hbm, 313, rfl⟩
abbrev main_call0_call1_call0_v32 : Ref sig .tc := ⟨.hbm, 314, rfl⟩
abbrev main_call0_call1_call0_c_7 : Ref sig .tc := ⟨.hbm, 315, rfl⟩
abbrev main_call0_call1_call0_v33 : Ref sig .tc := ⟨.hbm, 316, rfl⟩
abbrev main_call0_call1_call0_v34 : Ref sig .tc := ⟨.hbm, 317, rfl⟩
abbrev main_call0_call1_call0_v35 : Ref sig .tc := ⟨.hbm, 318, rfl⟩
abbrev main_call0_call1_call0_v36 : Ref sig .tc := ⟨.hbm, 319, rfl⟩
abbrev main_call0_call1_call0_v37 : Ref sig .tc := ⟨.hbm, 320, rfl⟩
abbrev main_call0_call1_call0_v38 : Ref sig .tc := ⟨.hbm, 321, rfl⟩
abbrev main_call0_call1_call0_v39 : Ref sig .tc := ⟨.hbm, 322, rfl⟩
abbrev main_call0_call1_call0_v40 : Ref sig .tc := ⟨.hbm, 323, rfl⟩
abbrev main_call0_call1_call0_c_8 : Ref sig .tc := ⟨.hbm, 324, rfl⟩
abbrev main_call0_call1_call0_v41 : Ref sig .tc := ⟨.hbm, 325, rfl⟩
abbrev main_call0_call1_call0_v42 : Ref sig .tc := ⟨.hbm, 326, rfl⟩
abbrev main_call0_call1_call0_v43 : Ref sig .tc := ⟨.hbm, 327, rfl⟩
abbrev main_call0_call1_call0_c_9 : Ref sig .tc := ⟨.hbm, 328, rfl⟩
abbrev main_call0_call1_call0_v44 : Ref sig .tc := ⟨.hbm, 329, rfl⟩
abbrev main_call0_call1_call0_v45 : Ref sig .tc := ⟨.hbm, 330, rfl⟩
abbrev main_call0_call1_call0_c_10 : Ref sig .tc := ⟨.hbm, 331, rfl⟩
abbrev main_call0_call1_call0_v46 : Ref sig .tc := ⟨.hbm, 332, rfl⟩
abbrev main_call0_call1_call0_v47 : Ref sig .tc := ⟨.hbm, 333, rfl⟩
abbrev main_call0_call1_call0_v48 : Ref sig .tc := ⟨.hbm, 334, rfl⟩
abbrev main_call0_call1_call0_v49 : Ref sig .tc := ⟨.hbm, 335, rfl⟩
abbrev main_call0_call1_call0_v50 : Ref sig .tc := ⟨.hbm, 336, rfl⟩
abbrev main_call0_call1_call0_c_11 : Ref sig .tc := ⟨.hbm, 337, rfl⟩
abbrev main_call0_call1_call0_v51 : Ref sig .tc := ⟨.hbm, 338, rfl⟩
abbrev main_call0_call1_call0_v52 : Ref sig .tc := ⟨.hbm, 339, rfl⟩
abbrev main_call0_call1_call0_c_12 : Ref sig .tc := ⟨.hbm, 340, rfl⟩
abbrev main_call0_call1_call0_v53 : Ref sig .tc := ⟨.hbm, 341, rfl⟩
abbrev main_call0_call1_call0_v54 : Ref sig .tc := ⟨.hbm, 342, rfl⟩
abbrev main_call0_call1_call0_v55 : Ref sig .tc := ⟨.hbm, 343, rfl⟩
abbrev main_call0_call1_call0_v56 : Ref sig .tc := ⟨.hbm, 344, rfl⟩
abbrev main_call0_call1_call0_v57 : Ref sig .tc := ⟨.hbm, 345, rfl⟩
abbrev main_call0_call1_call0_c_13 : Ref sig .tc := ⟨.hbm, 346, rfl⟩
abbrev main_call0_call1_call0_v58 : Ref sig .tc := ⟨.hbm, 347, rfl⟩
abbrev main_call0_call1_call0_v59 : Ref sig .tc := ⟨.hbm, 348, rfl⟩
abbrev main_call0_call1_call0_c_14 : Ref sig .tc := ⟨.hbm, 349, rfl⟩
abbrev main_call0_call1_call0_v60 : Ref sig .tc := ⟨.hbm, 350, rfl⟩
abbrev main_call0_call1_call0_v61 : Ref sig .tc := ⟨.hbm, 351, rfl⟩
abbrev main_call0_call1_call0_v62 : Ref sig .tc := ⟨.hbm, 352, rfl⟩
abbrev main_call0_call1_call0_v63 : Ref sig .tc := ⟨.hbm, 353, rfl⟩
abbrev main_call0_call1_call0_v64 : Ref sig .tc := ⟨.hbm, 354, rfl⟩
abbrev main_call0_call1_call0_c_15 : Ref sig .tc := ⟨.hbm, 355, rfl⟩
abbrev main_call0_call1_call0_v65 : Ref sig .tc := ⟨.hbm, 356, rfl⟩
abbrev main_call0_call1_call0_v66 : Ref sig .tc := ⟨.hbm, 357, rfl⟩
abbrev main_call0_call1_call0_c_16 : Ref sig .tc := ⟨.hbm, 358, rfl⟩
abbrev main_call0_call1_call0_v67 : Ref sig .tc := ⟨.hbm, 359, rfl⟩
abbrev main_call0_call1_call0_v68 : Ref sig .tc := ⟨.hbm, 360, rfl⟩
abbrev main_call0_call1_call0_v69 : Ref sig .tc := ⟨.hbm, 361, rfl⟩
abbrev main_call0_call1_call0_v70 : Ref sig .tc := ⟨.hbm, 362, rfl⟩
abbrev main_call0_call1_call0_v71 : Ref sig .tc := ⟨.hbm, 363, rfl⟩
abbrev main_call0_call1_call0_v72 : Ref sig .tc := ⟨.hbm, 364, rfl⟩
abbrev main_call0_call1_call0_v73 : Ref sig .tc := ⟨.hbm, 365, rfl⟩
abbrev main_call0_call1_call0_v74 : Ref sig .tc := ⟨.hbm, 366, rfl⟩
abbrev main_call0_call1_call0_c_17 : Ref sig .tc := ⟨.hbm, 367, rfl⟩
abbrev main_call0_call1_call0_v75 : Ref sig .tc := ⟨.hbm, 368, rfl⟩
abbrev main_call0_call1_call0_v76 : Ref sig .tc := ⟨.hbm, 369, rfl⟩
abbrev main_call0_call1_call0_v77 : Ref sig .tc := ⟨.hbm, 370, rfl⟩
abbrev main_call0_call1_call0_c_18 : Ref sig .tc := ⟨.hbm, 371, rfl⟩
abbrev main_call0_call1_call0_v78 : Ref sig .tc := ⟨.hbm, 372, rfl⟩
abbrev main_call0_call1_call0_v79 : Ref sig .tc := ⟨.hbm, 373, rfl⟩
abbrev main_call0_call1_call0_c_19 : Ref sig .tc := ⟨.hbm, 374, rfl⟩
abbrev main_call0_call1_call0_v80 : Ref sig .tc := ⟨.hbm, 375, rfl⟩
abbrev main_call0_call1_call0_v81 : Ref sig .tc := ⟨.hbm, 376, rfl⟩
abbrev main_call0_call1_call0_v82 : Ref sig .tc := ⟨.hbm, 377, rfl⟩
abbrev main_call0_call1_call0_v83 : Ref sig .tc := ⟨.hbm, 378, rfl⟩
abbrev main_call0_call1_call0_v84 : Ref sig .tc := ⟨.hbm, 379, rfl⟩
abbrev main_call0_call1_call0_c_20 : Ref sig .tc := ⟨.hbm, 380, rfl⟩
abbrev main_call0_call1_call0_v85 : Ref sig .tc := ⟨.hbm, 381, rfl⟩
abbrev main_call0_call1_call0_v86 : Ref sig .tc := ⟨.hbm, 382, rfl⟩
abbrev main_call0_call1_call0_c_21 : Ref sig .tc := ⟨.hbm, 383, rfl⟩
abbrev main_call0_call1_call0_v87 : Ref sig .tc := ⟨.hbm, 384, rfl⟩
abbrev main_call0_call1_call0_v88 : Ref sig .tc := ⟨.hbm, 385, rfl⟩
abbrev main_call0_call1_call0_v89 : Ref sig .tc := ⟨.hbm, 386, rfl⟩
abbrev main_call0_call1_call0_v90 : Ref sig .tc := ⟨.hbm, 387, rfl⟩
abbrev main_call0_call1_call0_v91 : Ref sig .tc := ⟨.hbm, 388, rfl⟩
abbrev main_call0_call1_call0_c_22 : Ref sig .tc := ⟨.hbm, 389, rfl⟩
abbrev main_call0_call1_call0_v92 : Ref sig .tc := ⟨.hbm, 390, rfl⟩
abbrev main_call0_call1_call0_v93 : Ref sig .tc := ⟨.hbm, 391, rfl⟩
abbrev main_call0_call1_call0_c_23 : Ref sig .tc := ⟨.hbm, 392, rfl⟩
abbrev main_call0_call1_call0_v94 : Ref sig .tc := ⟨.hbm, 393, rfl⟩
abbrev main_call0_call1_call0_v95 : Ref sig .tc := ⟨.hbm, 394, rfl⟩
abbrev main_call0_call1_call0_v96 : Ref sig .tc := ⟨.hbm, 395, rfl⟩
abbrev main_call0_call1_call0_v97 : Ref sig .tc := ⟨.hbm, 396, rfl⟩
abbrev main_call0_call1_call0_v98 : Ref sig .tc := ⟨.hbm, 397, rfl⟩
abbrev main_call0_call1_call0_c_24 : Ref sig .tc := ⟨.hbm, 398, rfl⟩
abbrev main_call0_call1_call0_v99 : Ref sig .tc := ⟨.hbm, 399, rfl⟩
abbrev main_call0_call1_call0_v100 : Ref sig .tc := ⟨.hbm, 400, rfl⟩
abbrev main_call0_call1_call0_c_25 : Ref sig .tc := ⟨.hbm, 401, rfl⟩
abbrev main_call0_call1_call0_v101 : Ref sig .tc := ⟨.hbm, 402, rfl⟩
abbrev main_call0_call1_call0_v102 : Ref sig .tc := ⟨.hbm, 403, rfl⟩
abbrev main_call0_call1_call0_v103 : Ref sig .tc := ⟨.hbm, 404, rfl⟩
abbrev main_call0_call1_call0_v104 : Ref sig .tc := ⟨.hbm, 405, rfl⟩
abbrev main_call0_call1_call0_v105 : Ref sig .tc := ⟨.hbm, 406, rfl⟩
abbrev main_call0_call1_call0_v106 : Ref sig .tc := ⟨.hbm, 407, rfl⟩
abbrev main_call0_call1_call0_v107 : Ref sig .tc := ⟨.hbm, 408, rfl⟩
abbrev main_call0_call1_call0_v108 : Ref sig .tc := ⟨.hbm, 409, rfl⟩
abbrev main_call0_call1_call0_c_26 : Ref sig .tc := ⟨.hbm, 410, rfl⟩
abbrev main_call0_call1_call0_v109 : Ref sig .tc := ⟨.hbm, 411, rfl⟩
abbrev main_call0_call1_call0_v110 : Ref sig .tc := ⟨.hbm, 412, rfl⟩
abbrev main_call0_call1_call0_v111 : Ref sig .tc := ⟨.hbm, 413, rfl⟩
abbrev main_call0_call1_call0_c_27 : Ref sig .tc := ⟨.hbm, 414, rfl⟩
abbrev main_call0_call1_call0_v112 : Ref sig .tc := ⟨.hbm, 415, rfl⟩
abbrev main_call0_call1_call0_v113 : Ref sig .tc := ⟨.hbm, 416, rfl⟩
abbrev main_call0_call1_call0_c_28 : Ref sig .tc := ⟨.hbm, 417, rfl⟩
abbrev main_call0_call1_call0_v114 : Ref sig .tc := ⟨.hbm, 418, rfl⟩
abbrev main_call0_call1_call0_v115 : Ref sig .tc := ⟨.hbm, 419, rfl⟩
abbrev main_call0_call1_call0_v116 : Ref sig .tc := ⟨.hbm, 420, rfl⟩
abbrev main_call0_call1_call0_v117 : Ref sig .tc := ⟨.hbm, 421, rfl⟩
abbrev main_call0_call1_call0_v118 : Ref sig .tc := ⟨.hbm, 422, rfl⟩
abbrev main_call0_call1_call0_c_29 : Ref sig .tc := ⟨.hbm, 423, rfl⟩
abbrev main_call0_call1_call0_v119 : Ref sig .tc := ⟨.hbm, 424, rfl⟩
abbrev main_call0_call1_call0_v120 : Ref sig .tc := ⟨.hbm, 425, rfl⟩
abbrev main_call0_call1_call0_c_30 : Ref sig .tc := ⟨.hbm, 426, rfl⟩
abbrev main_call0_call1_call0_v121 : Ref sig .tc := ⟨.hbm, 427, rfl⟩
abbrev main_call0_call1_call0_v122 : Ref sig .tc := ⟨.hbm, 428, rfl⟩
abbrev main_call0_call1_call0_v123 : Ref sig .tc := ⟨.hbm, 429, rfl⟩
abbrev main_call0_call1_call0_v124 : Ref sig .tc := ⟨.hbm, 430, rfl⟩
abbrev main_call0_call1_call0_v125 : Ref sig .tc := ⟨.hbm, 431, rfl⟩
abbrev main_call0_call1_call0_c_31 : Ref sig .tc := ⟨.hbm, 432, rfl⟩
abbrev main_call0_call1_call0_v126 : Ref sig .tc := ⟨.hbm, 433, rfl⟩
abbrev main_call0_call1_call0_v127 : Ref sig .tc := ⟨.hbm, 434, rfl⟩
abbrev main_call0_call1_call0_c_32 : Ref sig .tc := ⟨.hbm, 435, rfl⟩
abbrev main_call0_call1_call0_v128 : Ref sig .tc := ⟨.hbm, 436, rfl⟩
abbrev main_call0_call1_call0_v129 : Ref sig .tc := ⟨.hbm, 437, rfl⟩
abbrev main_call0_call1_call0_v130 : Ref sig .tc := ⟨.hbm, 438, rfl⟩
abbrev main_call0_call1_call0_v131 : Ref sig .tc := ⟨.hbm, 439, rfl⟩
abbrev main_call0_call1_call0_v132 : Ref sig .tc := ⟨.hbm, 440, rfl⟩
abbrev main_call0_call1_call0_c_33 : Ref sig .tc := ⟨.hbm, 441, rfl⟩
abbrev main_call0_call1_call0_v133 : Ref sig .tc := ⟨.hbm, 442, rfl⟩
abbrev main_call0_call1_call0_v134 : Ref sig .tc := ⟨.hbm, 443, rfl⟩
abbrev main_call0_call1_call0_c_34 : Ref sig .tc := ⟨.hbm, 444, rfl⟩
abbrev main_call0_call1_call0_v135 : Ref sig .tc := ⟨.hbm, 445, rfl⟩
abbrev main_call0_call1_call0_v136 : Ref sig .tc := ⟨.hbm, 446, rfl⟩
abbrev main_call0_call1_call0_v137 : Ref sig .tc := ⟨.hbm, 447, rfl⟩
abbrev main_call0_call1_call0_v138 : Ref sig .tc := ⟨.hbm, 448, rfl⟩
abbrev main_call0_call1_call0_v139 : Ref sig .tc := ⟨.hbm, 449, rfl⟩
abbrev main_call0_call1_call0_v140 : Ref sig .tc := ⟨.hbm, 450, rfl⟩
abbrev main_call0_call1_call0_v141 : Ref sig .tc := ⟨.hbm, 451, rfl⟩
abbrev main_call0_call1_call0_v142 : Ref sig .tc := ⟨.hbm, 452, rfl⟩
abbrev main_call0_call1_call0_c_35 : Ref sig .tc := ⟨.hbm, 453, rfl⟩
abbrev main_call0_call1_call0_v143 : Ref sig .tc := ⟨.hbm, 454, rfl⟩
abbrev main_call0_call1_call0_v144 : Ref sig .tc := ⟨.hbm, 455, rfl⟩
abbrev main_call0_call1_call0_v145 : Ref sig .tc := ⟨.hbm, 456, rfl⟩
abbrev main_call0_call1_call0_c_36 : Ref sig .tc := ⟨.hbm, 457, rfl⟩
abbrev main_call0_call1_call0_v146 : Ref sig .tc := ⟨.hbm, 458, rfl⟩
abbrev main_call0_call1_call0_v147 : Ref sig .tc := ⟨.hbm, 459, rfl⟩
abbrev main_call0_call1_call0_c_37 : Ref sig .tc := ⟨.hbm, 460, rfl⟩
abbrev main_call0_call1_call0_v148 : Ref sig .tc := ⟨.hbm, 461, rfl⟩
abbrev main_call0_call1_call0_v149 : Ref sig .tc := ⟨.hbm, 462, rfl⟩
abbrev main_call0_call1_call0_v150 : Ref sig .tc := ⟨.hbm, 463, rfl⟩
abbrev main_call0_call1_call0_v151 : Ref sig .tc := ⟨.hbm, 464, rfl⟩
abbrev main_call0_call1_call0_v152 : Ref sig .tc := ⟨.hbm, 465, rfl⟩
abbrev main_call0_call1_call0_c_38 : Ref sig .tc := ⟨.hbm, 466, rfl⟩
abbrev main_call0_call1_call0_v153 : Ref sig .tc := ⟨.hbm, 467, rfl⟩
abbrev main_call0_call1_call0_v154 : Ref sig .tc := ⟨.hbm, 468, rfl⟩
abbrev main_call0_call1_call0_c_39 : Ref sig .tc := ⟨.hbm, 469, rfl⟩
abbrev main_call0_call1_call0_v155 : Ref sig .tc := ⟨.hbm, 470, rfl⟩
abbrev main_call0_call1_call0_v156 : Ref sig .tc := ⟨.hbm, 471, rfl⟩
abbrev main_call0_call1_call0_v157 : Ref sig .tc := ⟨.hbm, 472, rfl⟩
abbrev main_call0_call1_call0_v158 : Ref sig .tc := ⟨.hbm, 473, rfl⟩
abbrev main_call0_call1_call0_v159 : Ref sig .tc := ⟨.hbm, 474, rfl⟩
abbrev main_call0_call1_call0_c_40 : Ref sig .tc := ⟨.hbm, 475, rfl⟩
abbrev main_call0_call1_call0_v160 : Ref sig .tc := ⟨.hbm, 476, rfl⟩
abbrev main_call0_call1_call0_v161 : Ref sig .tc := ⟨.hbm, 477, rfl⟩
abbrev main_call0_call1_call0_c_41 : Ref sig .tc := ⟨.hbm, 478, rfl⟩
abbrev main_call0_call1_call0_v162 : Ref sig .tc := ⟨.hbm, 479, rfl⟩
abbrev main_call0_call1_call0_v163 : Ref sig .tc := ⟨.hbm, 480, rfl⟩
abbrev main_call0_call1_call0_v164 : Ref sig .tc := ⟨.hbm, 481, rfl⟩
abbrev main_call0_call1_call0_v165 : Ref sig .tc := ⟨.hbm, 482, rfl⟩
abbrev main_call0_call1_call0_v166 : Ref sig .tc := ⟨.hbm, 483, rfl⟩
abbrev main_call0_call1_call0_c_42 : Ref sig .tc := ⟨.hbm, 484, rfl⟩
abbrev main_call0_call1_call0_v167 : Ref sig .tc := ⟨.hbm, 485, rfl⟩
abbrev main_call0_call1_call0_v168 : Ref sig .tc := ⟨.hbm, 486, rfl⟩
abbrev main_call0_call1_call0_c_43 : Ref sig .tc := ⟨.hbm, 487, rfl⟩
abbrev main_call0_call1_call0_v169 : Ref sig .tc := ⟨.hbm, 488, rfl⟩
abbrev main_call0_call1_call0_v170 : Ref sig .tc := ⟨.hbm, 489, rfl⟩
abbrev main_call0_call1_call0_v171 : Ref sig .tc := ⟨.hbm, 490, rfl⟩
abbrev main_call0_call1_call0_v172 : Ref sig .tc := ⟨.hbm, 491, rfl⟩
abbrev main_call0_call1_call0_v173 : Ref sig .tc := ⟨.hbm, 492, rfl⟩
abbrev main_call0_call1_v19_0 : Ref sig .tc := ⟨.hbm, 493, rfl⟩
abbrev main_call0_call1_call0_v175 : Ref sig .tc := ⟨.hbm, 494, rfl⟩
abbrev main_call0_call1_call0_v176 : Ref sig .tc := ⟨.hbm, 495, rfl⟩
abbrev main_call0_call1_call0_c_44 : Ref sig .tc := ⟨.hbm, 496, rfl⟩
abbrev main_call0_call1_call0_v177 : Ref sig .tc := ⟨.hbm, 497, rfl⟩
abbrev main_call0_call1_v19_1 : Ref sig .tc := ⟨.hbm, 498, rfl⟩
abbrev main_call0_call1_v20 : Ref sig .tc := ⟨.hbm, 499, rfl⟩
abbrev main_call0_call1_c_1 : Ref sig .tc := ⟨.hbm, 500, rfl⟩
abbrev main_call0_call1_v21 : Ref sig .tc := ⟨.hbm, 501, rfl⟩
abbrev main_call0_call1_v22 : Ref sig .tc := ⟨.hbm, 502, rfl⟩
abbrev main_call0_call1_c_2 : Ref sig .tc := ⟨.hbm, 503, rfl⟩
abbrev main_call0_call1_v23 : Ref sig .tc := ⟨.hbm, 504, rfl⟩
abbrev main_call0_call1_v24 : Ref sig .tc := ⟨.hbm, 505, rfl⟩
abbrev main_call0_call1_v25 : Ref sig .tc := ⟨.hbm, 506, rfl⟩
abbrev main_call0_call1_cst : Ref sig .tc := ⟨.hbm, 507, rfl⟩
abbrev main_call0_call1_v26 : Ref sig .tc := ⟨.hbm, 508, rfl⟩
abbrev main_call0_call1_v27 : Ref sig .tc := ⟨.hbm, 509, rfl⟩
abbrev main_call0_call1_v28 : Ref sig .tc := ⟨.hbm, 510, rfl⟩
abbrev main_call0_call1_v29 : Ref sig .tc := ⟨.hbm, 511, rfl⟩
abbrev main_call0_call1_v30 : Ref sig .tc := ⟨.hbm, 512, rfl⟩
abbrev main_call0_call1_v31 : Ref sig .tc := ⟨.hbm, 513, rfl⟩
abbrev main_call0_call1_v32 : Ref sig .tc := ⟨.hbm, 514, rfl⟩
abbrev main_call0_call1_v33 : Ref sig .tc := ⟨.hbm, 515, rfl⟩
abbrev main_call0_call1_v34 : Ref sig .tc := ⟨.hbm, 516, rfl⟩
abbrev main_call0_call1_v35 : Ref sig .tc := ⟨.hbm, 517, rfl⟩
abbrev main_call0_call1_v36 : Ref sig .tc := ⟨.hbm, 518, rfl⟩
abbrev main_call0_v10 : Ref sig .tc := ⟨.hbm, 519, rfl⟩
abbrev main_call0_v11 : Ref sig .tc := ⟨.hbm, 520, rfl⟩
abbrev main_call0_v12 : Ref sig .tc := ⟨.hbm, 521, rfl⟩
abbrev main_v0 : Ref sig .tc := ⟨.hbm, 522, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_189 : BitVec 32 := 0#32
  let c9_i32 : BitVec 32 := 9#32
  let v502 : BitVec 32 := Scalar.addi c0_i32_189 c9_i32
  let c1_i32_190 : BitVec 32 := 1#32
  ⟨c0_i32_189, v502, c1_i32_190⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x5x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x1x2x512x512 : Shape := ⟨5, ![2, 1, 2, 512, 512]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S262144 : Shape := ⟨1, ![262144]⟩
abbrev S1x262144 : Shape := ⟨2, ![1, 262144]⟩
abbrev S4x262144 : Shape := ⟨2, ![4, 262144]⟩
abbrev S1x1 : Shape := ⟨2, ![1, 1]⟩
abbrev S2x2x512x512 : Shape := ⟨4, ![2, 2, 512, 512]⟩
abbrev S4x512x512 : Shape := ⟨3, ![4, 512, 512]⟩
abbrev S512 : Shape := ⟨1, ![512]⟩
abbrev S512x512 : Shape := ⟨2, ![512, 512]⟩
abbrev S262144x1 : Shape := ⟨2, ![262144, 1]⟩
abbrev S262144x2 : Shape := ⟨2, ![262144, 2]⟩
abbrev S4x5 : Shape := ⟨2, ![4, 5]⟩
abbrev S4x5x1 : Shape := ⟨3, ![4, 5, 1]⟩
abbrev S4x5x2 : Shape := ⟨3, ![4, 5, 2]⟩
abbrev S4x1x5 : Shape := ⟨3, ![4, 1, 5]⟩
abbrev S1x262144x1 : Shape := ⟨3, ![1, 262144, 1]⟩
abbrev S4x262144x5 : Shape := ⟨3, ![4, 262144, 5]⟩
abbrev S4x2x5 : Shape := ⟨3, ![4, 2, 5]⟩
abbrev S262144x4x5 : Shape := ⟨3, ![262144, 4, 5]⟩
abbrev S4x262144x1 : Shape := ⟨3, ![4, 262144, 1]⟩
abbrev S5 : Shape := ⟨1, ![5]⟩
abbrev S1x5 : Shape := ⟨2, ![1, 5]⟩
abbrev S1x1x5 : Shape := ⟨3, ![1, 1, 5]⟩
abbrev S4x5x262144 : Shape := ⟨3, ![4, 5, 262144]⟩
abbrev S4x1x1 : Shape := ⟨3, ![4, 1, 1]⟩
abbrev S4x1x2 : Shape := ⟨3, ![4, 1, 2]⟩
abbrev S4x1x262144 : Shape := ⟨3, ![4, 1, 262144]⟩
abbrev S5x1 : Shape := ⟨2, ![5, 1]⟩
abbrev S1x5x1 : Shape := ⟨3, ![1, 5, 1]⟩
abbrev S4x5x512x512 : Shape := ⟨4, ![4, 5, 512, 512]⟩
abbrev S4x1x512x512 : Shape := ⟨4, ![4, 1, 512, 512]⟩
abbrev S4x4x512x512 : Shape := ⟨4, ![4, 4, 512, 512]⟩
abbrev S2x2x5x512x512 : Shape := ⟨5, ![2, 2, 5, 512, 512]⟩

abbrev nBuf : Space → Nat
  | .hbm => 674
  | .vmem => 0
  | .smem => 0
  | _ => 0

abbrev hbmTy0_0 (i : Nat) : BufTy := match i % 128 with
  | 0 => ⟨S2x1x2x512x512, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S4, .i64⟩
  | 16 => ⟨S_, .i64⟩
  | 17 => ⟨S4, .i64⟩
  | 18 => ⟨S4, .i64⟩
  | 19 => ⟨S_, .i64⟩
  | 20 => ⟨S4, .i64⟩
  | 21 => ⟨S4, .i64⟩
  | 22 => ⟨S4, .i32⟩
  | 23 => ⟨S4, .i32⟩
  | 24 => ⟨S_, .i32⟩
  | 25 => ⟨S_, .i32⟩
  | 26 => ⟨S_, .i32⟩
  | 27 => ⟨S4, .i32⟩
  | 28 => ⟨S4, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S4, .i32⟩
  | 40 => ⟨S4, .i32⟩
  | 41 => ⟨S_, .i32⟩
  | 42 => ⟨S4, .i32⟩
  | 43 => ⟨S4, .i32⟩
  | 44 => ⟨S_, .i32⟩
  | 45 => ⟨S4, .i32⟩
  | 46 => ⟨S4, .i32⟩
  | 47 => ⟨S4, .i32⟩
  | 48 => ⟨S4, .i32⟩
  | 49 => ⟨S4, .i32⟩
  | 50 => ⟨S_, .i32⟩
  | 51 => ⟨S4, .i32⟩
  | 52 => ⟨S4, .i32⟩
  | 53 => ⟨S_, .i32⟩
  | 54 => ⟨S4, .i32⟩
  | 55 => ⟨S4, .i32⟩
  | 56 => ⟨S4, .i32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S4, .i32⟩
  | 80 => ⟨S4, .i32⟩
  | 81 => ⟨S4, .i32⟩
  | 82 => ⟨S4, .i32⟩
  | 83 => ⟨S4, .i32⟩
  | 84 => ⟨S_, .i32⟩
  | 85 => ⟨S4, .i32⟩
  | 86 => ⟨S4, .i32⟩
  | 87 => ⟨S_, .i32⟩
  | 88 => ⟨S4, .i32⟩
  | 89 => ⟨S4, .i32⟩
  | 90 => ⟨S4, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S4, .i32⟩
  | 100 => ⟨S4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i32⟩
  | 121 => ⟨S_, .i32⟩
  | 122 => ⟨S4, .i32⟩
  | 123 => ⟨S4, .i32⟩
  | 124 => ⟨S4, .i32⟩
  | 125 => ⟨S4, .i32⟩
  | 126 => ⟨S4, .i32⟩
  | 127 => ⟨S_, .i32⟩
  | _ => ⟨S2x1x2x512x512, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i32⟩
  | 11 => ⟨S_, .i32⟩
  | 12 => ⟨S4, .i32⟩
  | 13 => ⟨S4, .i32⟩
  | 14 => ⟨S4, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S4x1, .i32⟩
  | 119 => ⟨S4x1, .i32⟩
  | 120 => ⟨S4x2, .i32⟩
  | 121 => ⟨S_, .f32⟩
  | 122 => ⟨S1, .f32⟩
  | 123 => ⟨S_, .f32⟩
  | 124 => ⟨S1, .f32⟩
  | 125 => ⟨S4x1, .i32⟩
  | 126 => ⟨S4, .i32⟩
  | 127 => ⟨S4x1, .i32⟩
  | _ => ⟨S2x1x2x512x512, .f32⟩

abbrev hbmTy0_2 (i : Nat) : BufTy := match i % 128 with
  | 0 => ⟨S4, .i32⟩
  | 1 => ⟨S262144, .i64⟩
  | 2 => ⟨S_, .i64⟩
  | 3 => ⟨S262144, .i64⟩
  | 4 => ⟨S262144, .i64⟩
  | 5 => ⟨S_, .i64⟩
  | 6 => ⟨S262144, .i64⟩
  | 7 => ⟨S262144, .i64⟩
  | 8 => ⟨S262144, .i32⟩
  | 9 => ⟨S262144, .i32⟩
  | 10 => ⟨S1x262144, .i32⟩
  | 11 => ⟨S1x262144, .i32⟩
  | 12 => ⟨S4x1, .i32⟩
  | 13 => ⟨S4x1, .i32⟩
  | 14 => ⟨S4x1, .i32⟩
  | 15 => ⟨S_, .i32⟩
  | 16 => ⟨S4x1, .i32⟩
  | 17 => ⟨S4x1, .i32⟩
  | 18 => ⟨S4x262144, .i32⟩
  | 19 => ⟨S4x262144, .i32⟩
  | 20 => ⟨S4x262144, .i32⟩
  | 21 => ⟨S4x262144, .i32⟩
  | 22 => ⟨S4x262144, .i32⟩
  | 23 => ⟨S4x262144, .i32⟩
  | 24 => ⟨S4x262144, .i32⟩
  | 25 => ⟨S_, .i32⟩
  | 26 => ⟨S4x262144, .i32⟩
  | 27 => ⟨S4x262144, .i32⟩
  | 28 => ⟨S_, .i32⟩
  | 29 => ⟨S4x262144, .i32⟩
  | 30 => ⟨S4x262144, .i32⟩
  | 31 => ⟨S4x262144, .i32⟩
  | 32 => ⟨S4x262144, .i32⟩
  | 33 => ⟨S4x262144, .i32⟩
  | 34 => ⟨S_, .i32⟩
  | 35 => ⟨S4x262144, .i32⟩
  | 36 => ⟨S4x262144, .i32⟩
  | 37 => ⟨S_, .i32⟩
  | 38 => ⟨S4x262144, .i32⟩
  | 39 => ⟨S4x262144, .i32⟩
  | 40 => ⟨S4x262144, .i32⟩
  | 41 => ⟨S4x262144, .i32⟩
  | 42 => ⟨S4x262144, .i32⟩
  | 43 => ⟨S_, .i32⟩
  | 44 => ⟨S4x262144, .i32⟩
  | 45 => ⟨S4x262144, .i32⟩
  | 46 => ⟨S_, .i32⟩
  | 47 => ⟨S4x262144, .i32⟩
  | 48 => ⟨S4x262144, .i32⟩
  | 49 => ⟨S4x262144, .i32⟩
  | 50 => ⟨S4x262144, .i32⟩
  | 51 => ⟨S4x262144, .i32⟩
  | 52 => ⟨S_, .i32⟩
  | 53 => ⟨S4x262144, .i32⟩
  | 54 => ⟨S4x262144, .i32⟩
  | 55 => ⟨S_, .i32⟩
  | 56 => ⟨S4x262144, .i32⟩
  | 57 => ⟨S4x262144, .i32⟩
  | 58 => ⟨S4x262144, .i32⟩
  | 59 => ⟨S4x262144, .i32⟩
  | 60 => ⟨S4x262144, .i32⟩
  | 61 => ⟨S4x262144, .i32⟩
  | 62 => ⟨S4x262144, .i32⟩
  | 63 => ⟨S4x262144, .i32⟩
  | 64 => ⟨S_, .i32⟩
  | 65 => ⟨S4x262144, .i32⟩
  | 66 => ⟨S4x262144, .i32⟩
  | 67 => ⟨S4x262144, .i32⟩
  | 68 => ⟨S_, .i32⟩
  | 69 => ⟨S4x262144, .i32⟩
  | 70 => ⟨S4x262144, .i32⟩
  | 71 => ⟨S_, .i32⟩
  | 72 => ⟨S4x262144, .i32⟩
  | 73 => ⟨S4x262144, .i32⟩
  | 74 => ⟨S4x262144, .i32⟩
  | 75 => ⟨S4x262144, .i32⟩
  | 76 => ⟨S4x262144, .i32⟩
  | 77 => ⟨S_, .i32⟩
  | 78 => ⟨S4x262144, .i32⟩
  | 79 => ⟨S4x262144, .i32⟩
  | 80 => ⟨S_, .i32⟩
  | 81 => ⟨S4x262144, .i32⟩
  | 82 => ⟨S4x262144, .i32⟩
  | 83 => ⟨S4x262144, .i32⟩
  | 84 => ⟨S4x262144, .i32⟩
  | 85 => ⟨S4x262144, .i32⟩
  | 86 => ⟨S_, .i32⟩
  | 87 => ⟨S4x262144, .i32⟩
  | 88 => ⟨S4x262144, .i32⟩
  | 89 => ⟨S_, .i32⟩
  | 90 => ⟨S4x262144, .i32⟩
  | 91 => ⟨S4x262144, .i32⟩
  | 92 => ⟨S4x262144, .i32⟩
  | 93 => ⟨S4x262144, .i32⟩
  | 94 => ⟨S4x262144, .i32⟩
  | 95 => ⟨S_, .i32⟩
  | 96 => ⟨S4x262144, .i32⟩
  | 97 => ⟨S4x262144, .i32⟩
  | 98 => ⟨S_, .i32⟩
  | 99 => ⟨S4x262144, .i32⟩
  | 100 => ⟨S4x262144, .i32⟩
  | 101 => ⟨S4x262144, .i32⟩
  | 102 => ⟨S4x262144, .i32⟩
  | 103 => ⟨S4x262144, .i32⟩
  | 104 => ⟨S4x262144, .i32⟩
  | 105 => ⟨S4x262144, .i32⟩
  | 106 => ⟨S4x262144, .i32⟩
  | 107 => ⟨S_, .i32⟩
  | 108 => ⟨S4x262144, .i32⟩
  | 109 => ⟨S4x262144, .i32⟩
  | 110 => ⟨S4x262144, .i32⟩
  | 111 => ⟨S_, .i32⟩
  | 112 => ⟨S4x262144, .i32⟩
  | 113 => ⟨S4x262144, .i32⟩
  | 114 => ⟨S_, .i32⟩
  | 115 => ⟨S4x262144, .i32⟩
  | 116 => ⟨S4x262144, .i32⟩
  | 117 => ⟨S4x262144, .i32⟩
  | 118 => ⟨S4x262144, .i32⟩
  | 119 => ⟨S4x262144, .i32⟩
  | 120 => ⟨S_, .i32⟩
  | 121 => ⟨S4x262144, .i32⟩
  | 122 => ⟨S4x262144, .i32⟩
  | 123 => ⟨S_, .i32⟩
  | 124 => ⟨S4x262144, .i32⟩
  | 125 => ⟨S4x262144, .i32⟩
  | 126 => ⟨S4x262144, .i32⟩
  | 127 => ⟨S4x262144, .i32⟩
  | _ => ⟨S2x1x2x512x512, .f32⟩

abbrev hbmTy0_3 (i : Nat) : BufTy := match i % 128 with
  | 0 => ⟨S4x262144, .i32⟩
  | 1 => ⟨S_, .i32⟩
  | 2 => ⟨S4x262144, .i32⟩
  | 3 => ⟨S4x262144, .i32⟩
  | 4 => ⟨S_, .i32⟩
  | 5 => ⟨S4x262144, .i32⟩
  | 6 => ⟨S4x262144, .i32⟩
  | 7 => ⟨S4x262144, .i32⟩
  | 8 => ⟨S4x262144, .i32⟩
  | 9 => ⟨S4x262144, .i32⟩
  | 10 => ⟨S_, .i32⟩
  | 11 => ⟨S4x262144, .i32⟩
  | 12 => ⟨S4x262144, .i32⟩
  | 13 => ⟨S_, .i32⟩
  | 14 => ⟨S4x262144, .i32⟩
  | 15 => ⟨S4x262144, .i32⟩
  | 16 => ⟨S4x262144, .i32⟩
  | 17 => ⟨S4x262144, .i32⟩
  | 18 => ⟨S4x262144, .i32⟩
  | 19 => ⟨S4x262144, .i32⟩
  | 20 => ⟨S4x262144, .i32⟩
  | 21 => ⟨S4x262144, .i32⟩
  | 22 => ⟨S_, .i32⟩
  | 23 => ⟨S4x262144, .i32⟩
  | 24 => ⟨S4x262144, .i32⟩
  | 25 => ⟨S4x262144, .i32⟩
  | 26 => ⟨S_, .i32⟩
  | 27 => ⟨S4x262144, .i32⟩
  | 28 => ⟨S4x262144, .i32⟩
  | 29 => ⟨S_, .i32⟩
  | 30 => ⟨S4x262144, .i32⟩
  | 31 => ⟨S4x262144, .i32⟩
  | 32 => ⟨S4x262144, .i32⟩
  | 33 => ⟨S4x262144, .i32⟩
  | 34 => ⟨S4x262144, .i32⟩
  | 35 => ⟨S_, .i32⟩
  | 36 => ⟨S4x262144, .i32⟩
  | 37 => ⟨S4x262144, .i32⟩
  | 38 => ⟨S_, .i32⟩
  | 39 => ⟨S4x262144, .i32⟩
  | 40 => ⟨S4x262144, .i32⟩
  | 41 => ⟨S4x262144, .i32⟩
  | 42 => ⟨S4x262144, .i32⟩
  | 43 => ⟨S4x262144, .i32⟩
  | 44 => ⟨S_, .i32⟩
  | 45 => ⟨S4x262144, .i32⟩
  | 46 => ⟨S4x262144, .i32⟩
  | 47 => ⟨S_, .i32⟩
  | 48 => ⟨S4x262144, .i32⟩
  | 49 => ⟨S4x262144, .i32⟩
  | 50 => ⟨S4x262144, .i32⟩
  | 51 => ⟨S4x262144, .i32⟩
  | 52 => ⟨S4x262144, .i32⟩
  | 53 => ⟨S_, .i32⟩
  | 54 => ⟨S4x262144, .i32⟩
  | 55 => ⟨S4x262144, .i32⟩
  | 56 => ⟨S_, .i32⟩
  | 57 => ⟨S4x262144, .i32⟩
  | 58 => ⟨S4x262144, .i32⟩
  | 59 => ⟨S4x262144, .i32⟩
  | 60 => ⟨S4x262144, .i32⟩
  | 61 => ⟨S4x262144, .i32⟩
  | 62 => ⟨S4x262144, .i32⟩
  | 63 => ⟨S4x262144, .i32⟩
  | 64 => ⟨S4x262144, .i32⟩
  | 65 => ⟨S_, .i32⟩
  | 66 => ⟨S4x262144, .i32⟩
  | 67 => ⟨S4x262144, .i32⟩
  | 68 => ⟨S4x262144, .i32⟩
  | 69 => ⟨S_, .i32⟩
  | 70 => ⟨S4x262144, .i32⟩
  | 71 => ⟨S4x262144, .i32⟩
  | 72 => ⟨S_, .i32⟩
  | 73 => ⟨S4x262144, .i32⟩
  | 74 => ⟨S4x262144, .i32⟩
  | 75 => ⟨S4x262144, .i32⟩
  | 76 => ⟨S4x262144, .i32⟩
  | 77 => ⟨S4x262144, .i32⟩
  | 78 => ⟨S_, .i32⟩
  | 79 => ⟨S4x262144, .i32⟩
  | 80 => ⟨S4x262144, .i32⟩
  | 81 => ⟨S_, .i32⟩
  | 82 => ⟨S4x262144, .i32⟩
  | 83 => ⟨S4x262144, .i32⟩
  | 84 => ⟨S4x262144, .i32⟩
  | 85 => ⟨S4x262144, .i32⟩
  | 86 => ⟨S4x262144, .i32⟩
  | 87 => ⟨S_, .i32⟩
  | 88 => ⟨S4x262144, .i32⟩
  | 89 => ⟨S4x262144, .i32⟩
  | 90 => ⟨S_, .i32⟩
  | 91 => ⟨S4x262144, .i32⟩
  | 92 => ⟨S4x262144, .i32⟩
  | 93 => ⟨S4x262144, .i32⟩
  | 94 => ⟨S4x262144, .i32⟩
  | 95 => ⟨S4x262144, .i32⟩
  | 96 => ⟨S_, .i32⟩
  | 97 => ⟨S4x262144, .i32⟩
  | 98 => ⟨S4x262144, .i32⟩
  | 99 => ⟨S_, .i32⟩
  | 100 => ⟨S4x262144, .i32⟩
  | 101 => ⟨S4x262144, .i32⟩
  | 102 => ⟨S4x262144, .i32⟩
  | 103 => ⟨S4x262144, .i32⟩
  | 104 => ⟨S4x262144, .i32⟩
  | 105 => ⟨S4x262144, .i32⟩
  | 106 => ⟨S4x262144, .i32⟩
  | 107 => ⟨S4x262144, .i32⟩
  | 108 => ⟨S_, .i32⟩
  | 109 => ⟨S4x262144, .i32⟩
  | 110 => ⟨S4x262144, .i32⟩
  | 111 => ⟨S4x262144, .i32⟩
  | 112 => ⟨S_, .i32⟩
  | 113 => ⟨S4x262144, .i32⟩
  | 114 => ⟨S4x262144, .i32⟩
  | 115 => ⟨S_, .i32⟩
  | 116 => ⟨S4x262144, .i32⟩
  | 117 => ⟨S4x262144, .i32⟩
  | 118 => ⟨S4x262144, .f32⟩
  | 119 => ⟨S_, .f32⟩
  | 120 => ⟨S4x262144, .f32⟩
  | 121 => ⟨S4x262144, .f32⟩
  | 122 => ⟨S1, .f32⟩
  | 123 => ⟨S1x1, .f32⟩
  | 124 => ⟨S4x262144, .f32⟩
  | 125 => ⟨S4x262144, .f32⟩
  | 126 => ⟨S1x1, .f32⟩
  | 127 => ⟨S4x262144, .f32⟩
  | _ => ⟨S2x1x2x512x512, .f32⟩

abbrev hbmTy0_4 (i : Nat) : BufTy := match i % 128 with
  | 0 => ⟨S4x262144, .f32⟩
  | 1 => ⟨S1x1, .f32⟩
  | 2 => ⟨S4x262144, .f32⟩
  | 3 => ⟨S4x262144, .f32⟩
  | 4 => ⟨S2x2x512x512, .f32⟩
  | 5 => ⟨S4x512x512, .f32⟩
  | 6 => ⟨S512, .i32⟩
  | 7 => ⟨S512, .i32⟩
  | 8 => ⟨S512x512, .i32⟩
  | 9 => ⟨S512x512, .i32⟩
  | 10 => ⟨S262144, .i32⟩
  | 11 => ⟨S262144, .i32⟩
  | 12 => ⟨S262144x1, .i32⟩
  | 13 => ⟨S262144x1, .i32⟩
  | 14 => ⟨S262144x2, .i32⟩
  | 15 => ⟨S262144x2, .f32⟩
  | 16 => ⟨S4x262144, .f32⟩
  | 17 => ⟨S_, .f32⟩
  | 18 => ⟨S4x262144, .f32⟩
  | 19 => ⟨S4x262144, .i1⟩
  | 20 => ⟨S4x262144, .f32⟩
  | 21 => ⟨S_, .f32⟩
  | 22 => ⟨S4x262144, .f32⟩
  | 23 => ⟨S4x262144, .f32⟩
  | 24 => ⟨S4x262144, .f32⟩
  | 25 => ⟨S4x5, .f32⟩
  | 26 => ⟨S4x5, .i32⟩
  | 27 => ⟨S262144x2, .f32⟩
  | 28 => ⟨S_, .f32⟩
  | 29 => ⟨S262144, .f32⟩
  | 30 => ⟨S_, .i32⟩
  | 31 => ⟨S4x5, .i32⟩
  | 32 => ⟨S4x5, .i1⟩
  | 33 => ⟨S_, .i32⟩
  | 34 => ⟨S4x5, .i32⟩
  | 35 => ⟨S4x5, .i32⟩
  | 36 => ⟨S4x5, .i32⟩
  | 37 => ⟨S4x5x1, .i32⟩
  | 38 => ⟨S4x5x2, .f32⟩
  | 39 => ⟨S_, .i32⟩
  | 40 => ⟨S262144, .i32⟩
  | 41 => ⟨S4x262144, .i32⟩
  | 42 => ⟨S_, .f32⟩
  | 43 => ⟨S4, .f32⟩
  | 44 => ⟨S_, .i32⟩
  | 45 => ⟨S_, .i32⟩
  | 46 => ⟨S262144, .f32⟩
  | 47 => ⟨S262144x2, .f32⟩
  | 48 => ⟨S4x262144, .i1⟩
  | 49 => ⟨S_, .i32⟩
  | 50 => ⟨S_, .i32⟩
  | 51 => ⟨S4x5x2, .f32⟩
  | 52 => ⟨S4x262144, .i32⟩
  | 53 => ⟨S4, .f32⟩
  | 54 => ⟨S_, .i32⟩
  | 55 => ⟨S_, .i1⟩
  | 56 => ⟨S_, .i32⟩
  | 57 => ⟨S_, .i32⟩
  | 58 => ⟨S262144x1, .f32⟩
  | 59 => ⟨S4x5x2, .f32⟩
  | 60 => ⟨S_, .f32⟩
  | 61 => ⟨S4x5, .f32⟩
  | 62 => ⟨S4x1x5, .f32⟩
  | 63 => ⟨S1x262144x1, .f32⟩
  | 64 => ⟨S4x262144x5, .f32⟩
  | 65 => ⟨S4x262144x5, .f32⟩
  | 66 => ⟨S4x262144x5, .f32⟩
  | 67 => ⟨S4x2x5, .f32⟩
  | 68 => ⟨S262144x4x5, .f32⟩
  | 69 => ⟨S_, .f32⟩
  | 70 => ⟨S262144x4x5, .f32⟩
  | 71 => ⟨S262144x4x5, .f32⟩
  | 72 => ⟨S4x262144x5, .f32⟩
  | 73 => ⟨S4x262144x5, .f32⟩
  | 74 => ⟨S_, .f32⟩
  | 75 => ⟨S4x262144x5, .f32⟩
  | 76 => ⟨S4x262144x5, .f32⟩
  | 77 => ⟨S4x262144x5, .f32⟩
  | 78 => ⟨S4x262144x5, .f32⟩
  | 79 => ⟨S4x262144x1, .f32⟩
  | 80 => ⟨S4x262144x1, .i32⟩
  | 81 => ⟨S4x262144, .i32⟩
  | 82 => ⟨S4x262144x1, .i32⟩
  | 83 => ⟨S5, .i32⟩
  | 84 => ⟨S1x5, .i32⟩
  | 85 => ⟨S1x1x5, .i32⟩
  | 86 => ⟨S4x262144x5, .i32⟩
  | 87 => ⟨S4x262144x5, .i32⟩
  | 88 => ⟨S4x262144x5, .i1⟩
  | 89 => ⟨S4x262144x1, .i1⟩
  | 90 => ⟨S4x262144x5, .i1⟩
  | 91 => ⟨S4x262144x5, .i1⟩
  | 92 => ⟨S4x262144x5, .f32⟩
  | 93 => ⟨S_, .f32⟩
  | 94 => ⟨S4x5, .f32⟩
  | 95 => ⟨S4x5x262144, .f32⟩
  | 96 => ⟨S4x5x2, .f32⟩
  | 97 => ⟨S_, .f32⟩
  | 98 => ⟨S4x5, .f32⟩
  | 99 => ⟨S4x5, .f32⟩
  | 100 => ⟨S4x5x1, .f32⟩
  | 101 => ⟨S4x5x2, .f32⟩
  | 102 => ⟨S4x5x2, .f32⟩
  | 103 => ⟨S_, .f32⟩
  | 104 => ⟨S4x262144, .f32⟩
  | 105 => ⟨S_, .f32⟩
  | 106 => ⟨S_, .f32⟩
  | 107 => ⟨S262144, .f32⟩
  | 108 => ⟨S4x262144, .f32⟩
  | 109 => ⟨S4x262144, .f32⟩
  | 110 => ⟨S4x1, .f32⟩
  | 111 => ⟨S4x1, .i32⟩
  | 112 => ⟨S_, .i32⟩
  | 113 => ⟨S4x1, .i32⟩
  | 114 => ⟨S4x1, .i1⟩
  | 115 => ⟨S_, .i32⟩
  | 116 => ⟨S4x1, .i32⟩
  | 117 => ⟨S4x1, .i32⟩
  | 118 => ⟨S4x1, .i32⟩
  | 119 => ⟨S4x1x1, .i32⟩
  | 120 => ⟨S4x1x2, .f32⟩
  | 121 => ⟨S_, .f32⟩
  | 122 => ⟨S4x5, .f32⟩
  | 123 => ⟨S4x5, .i1⟩
  | 124 => ⟨S4x5x1, .i1⟩
  | 125 => ⟨S4x5x2, .i1⟩
  | 126 => ⟨S4x5x2, .f32⟩
  | 127 => ⟨S4x5x2, .f32⟩
  | _ => ⟨S2x1x2x512x512, .f32⟩

abbrev hbmTy0_5 (i : Nat) : BufTy := match i % 128 with
  | 0 => ⟨S4x262144, .f32⟩
  | 1 => ⟨S_, .f32⟩
  | 2 => ⟨S4, .f32⟩
  | 3 => ⟨S_, .i32⟩
  | 4 => ⟨S_, .i32⟩
  | 5 => ⟨S2x2x512x512, .f32⟩
  | 6 => ⟨S4x512x512, .f32⟩
  | 7 => ⟨S4x262144, .f32⟩
  | 8 => ⟨S_, .f32⟩
  | 9 => ⟨S4x262144, .f32⟩
  | 10 => ⟨S4x262144, .i1⟩
  | 11 => ⟨S4x1x262144, .i32⟩
  | 12 => ⟨S5, .i32⟩
  | 13 => ⟨S5x1, .i32⟩
  | 14 => ⟨S1x5x1, .i32⟩
  | 15 => ⟨S4x5x262144, .i32⟩
  | 16 => ⟨S4x5x262144, .i32⟩
  | 17 => ⟨S4x5x262144, .i1⟩
  | 18 => ⟨S4x1x262144, .i1⟩
  | 19 => ⟨S4x5x262144, .i1⟩
  | 20 => ⟨S4x5x262144, .i1⟩
  | 21 => ⟨S4x5x262144, .f32⟩
  | 22 => ⟨S4x5x512x512, .f32⟩
  | 23 => ⟨S4x1x512x512, .f32⟩
  | 24 => ⟨S_, .f32⟩
  | 25 => ⟨S4x512x512, .f32⟩
  | 26 => ⟨S4x4x512x512, .f32⟩
  | 27 => ⟨S4x5x512x512, .f32⟩
  | 28 => ⟨S_, .f32⟩
  | 29 => ⟨S4, .f32⟩
  | 30 => ⟨S4, .i1⟩
  | 31 => ⟨S4x5x512x512, .i1⟩
  | 32 => ⟨S4x5x512x512, .f32⟩
  | 33 => ⟨S2x2x5x512x512, .f32⟩
  | _ => ⟨S2x1x2x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x1x2x512x512, .f32⟩

abbrev bufTy : (tb : Table) → Fin (tcTables nBuf tb) → BufTy
  | .hbm, ⟨i, _⟩ => hbmTy i
  | _, _ => ⟨S2x1x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_c_0 : Ref sig .tc := ⟨.hbm, 32, rfl⟩
abbrev main_call0_v7 : Ref sig .tc := ⟨.hbm, 33, rfl⟩
abbrev main_call0_v8 : Ref sig .tc := ⟨.hbm, 34, rfl⟩
abbrev main_call0_c_1 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_c_2 : Ref sig .tc := ⟨.hbm, 41, rfl⟩
abbrev main_call0_v14 : Ref sig .tc := ⟨.hbm, 42, rfl⟩
abbrev main_call0_v15 : Ref sig .tc := ⟨.hbm, 43, rfl⟩
abbrev main_call0_c_3 : Ref sig .tc := ⟨.hbm, 44, rfl⟩
abbrev main_call0_v16 : Ref sig .tc := ⟨.hbm, 45, rfl⟩
abbrev main_call0_v17 : Ref sig .tc := ⟨.hbm, 46, rfl⟩
abbrev main_call0_v18 : Ref sig .tc := ⟨.hbm, 47, rfl⟩
abbrev main_call0_v19 : Ref sig .tc := ⟨.hbm, 48, rfl⟩
abbrev main_call0_v20 : Ref sig .tc := ⟨.hbm, 49, rfl⟩
abbrev main_call0_c_4 : Ref sig .tc := ⟨.hbm, 50, rfl⟩
abbrev main_call0_v21 : Ref sig .tc := ⟨.hbm, 51, rfl⟩
abbrev main_call0_v22 : Ref sig .tc := ⟨.hbm, 52, rfl⟩
abbrev main_call0_c_5 : Ref sig .tc := ⟨.hbm, 53, rfl⟩
abbrev main_call0_v23 : Ref sig .tc := ⟨.hbm, 54, rfl⟩
abbrev main_call0_v24 : Ref sig .tc := ⟨.hbm, 55, rfl⟩
abbrev main_call0_v25 : Ref sig .tc := ⟨.hbm, 56, rfl⟩
abbrev main_call0_v26 : Ref sig .tc := ⟨.hbm, 57, rfl⟩
abbrev main_call0_v27 : Ref sig .tc := ⟨.hbm, 58, rfl⟩
abbrev main_call0_c_6 : Ref sig .tc := ⟨.hbm, 59, rfl⟩
abbrev main_call0_v28 : Ref sig .tc := ⟨.hbm, 60, rfl⟩
abbrev main_call0_v29 : Ref sig .tc := ⟨.hbm, 61, rfl⟩
abbrev main_call0_c_7 : Ref sig .tc := ⟨.hbm, 62, rfl⟩
abbrev main_call0_v30 : Ref sig .tc := ⟨.hbm, 63, rfl⟩
abbrev main_call0_v31 : Ref sig .tc := ⟨.hbm, 64, rfl⟩
abbrev main_call0_v32 : Ref sig .tc := ⟨.hbm, 65, rfl⟩
abbrev main_call0_v33 : Ref sig .tc := ⟨.hbm, 66, rfl⟩
abbrev main_call0_v34 : Ref sig .tc := ⟨.hbm, 67, rfl⟩
abbrev main_call0_v35 : Ref sig .tc := ⟨.hbm, 68, rfl⟩
abbrev main_call0_v36 : Ref sig .tc := ⟨.hbm, 69, rfl⟩
abbrev main_call0_v37 : Ref sig .tc := ⟨.hbm, 70, rfl⟩
abbrev main_call0_c_8 : Ref sig .tc := ⟨.hbm, 71, rfl⟩
abbrev main_call0_v38 : Ref sig .tc := ⟨.hbm, 72, rfl⟩
abbrev main_call0_v39 : Ref sig .tc := ⟨.hbm, 73, rfl⟩
abbrev main_call0_v40 : Ref sig .tc := ⟨.hbm, 74, rfl⟩
abbrev main_call0_c_9 : Ref sig .tc := ⟨.hbm, 75, rfl⟩
abbrev main_call0_v41 : Ref sig .tc := ⟨.hbm, 76, rfl⟩
abbrev main_call0_v42 : Ref sig .tc := ⟨.hbm, 77, rfl⟩
abbrev main_call0_c_10 : Ref sig .tc := ⟨.hbm, 78, rfl⟩
abbrev main_call0_v43 : Ref sig .tc := ⟨.hbm, 79, rfl⟩
abbrev main_call0_v44 : Ref sig .tc := ⟨.hbm, 80, rfl⟩
abbrev main_call0_v45 : Ref sig .tc := ⟨.hbm, 81, rfl⟩
abbrev main_call0_v46 : Ref sig .tc := ⟨.hbm, 82, rfl⟩
abbrev main_call0_v47 : Ref sig .tc := ⟨.hbm, 83, rfl⟩
abbrev main_call0_c_11 : Ref sig .tc := ⟨.hbm, 84, rfl⟩
abbrev main_call0_v48 : Ref sig .tc := ⟨.hbm, 85, rfl⟩
abbrev main_call0_v49 : Ref sig .tc := ⟨.hbm, 86, rfl⟩
abbrev main_call0_c_12 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_call0_v53 : Ref sig .tc := ⟨.hbm, 91, rfl⟩
abbrev main_call0_v54 : Ref sig .tc := ⟨.hbm, 92, rfl⟩
abbrev main_call0_c_13 : Ref sig .tc := ⟨.hbm, 93, rfl⟩
abbrev main_call0_v55 : Ref sig .tc := ⟨.hbm, 94, rfl⟩
abbrev main_call0_v56 : Ref sig .tc := ⟨.hbm, 95, rfl⟩
abbrev main_call0_c_14 : Ref sig .tc := ⟨.hbm, 96, rfl⟩
abbrev main_call0_v57 : Ref sig .tc := ⟨.hbm, 97, rfl⟩
abbrev main_call0_v58 : Ref sig .tc := ⟨.hbm, 98, rfl⟩
abbrev main_call0_v59 : Ref sig .tc := ⟨.hbm, 99, rfl⟩
abbrev main_call0_v60 : Ref sig .tc := ⟨.hbm, 100, rfl⟩
abbrev main_call0_v61 : Ref sig .tc := ⟨.hbm, 101, rfl⟩
abbrev main_call0_c_15 : Ref sig .tc := ⟨.hbm, 102, rfl⟩
abbrev main_call0_v62 : Ref sig .tc := ⟨.hbm, 103, rfl⟩
abbrev main_call0_v63 : Ref sig .tc := ⟨.hbm, 104, rfl⟩
abbrev main_call0_c_16 : Ref sig .tc := ⟨.hbm, 105, rfl⟩
abbrev main_call0_v64 : Ref sig .tc := ⟨.hbm, 106, rfl⟩
abbrev main_call0_v65 : Ref sig .tc := ⟨.hbm, 107, rfl⟩
abbrev main_call0_v66 : Ref sig .tc := ⟨.hbm, 108, rfl⟩
abbrev main_call0_v67 : Ref sig .tc := ⟨.hbm, 109, rfl⟩
abbrev main_call0_v68 : Ref sig .tc := ⟨.hbm, 110, rfl⟩
abbrev main_call0_v69 : Ref sig .tc := ⟨.hbm, 111, rfl⟩
abbrev main_call0_v70 : Ref sig .tc := ⟨.hbm, 112, rfl⟩
abbrev main_call0_v71 : Ref sig .tc := ⟨.hbm, 113, rfl⟩
abbrev main_call0_c_17 : Ref sig .tc := ⟨.hbm, 114, rfl⟩
abbrev main_call0_v72 : Ref sig .tc := ⟨.hbm, 115, rfl⟩
abbrev main_call0_v73 : Ref sig .tc := ⟨.hbm, 116, rfl⟩
abbrev main_call0_v74 : Ref sig .tc := ⟨.hbm, 117, rfl⟩
abbrev main_call0_c_18 : Ref sig .tc := ⟨.hbm, 118, rfl⟩
abbrev main_call0_v75 : Ref sig .tc := ⟨.hbm, 119, rfl⟩
abbrev main_call0_v76 : Ref sig .tc := ⟨.hbm, 120, rfl⟩
abbrev main_call0_c_19 : Ref sig .tc := ⟨.hbm, 121, rfl⟩
abbrev main_call0_v77 : Ref sig .tc := ⟨.hbm, 122, rfl⟩
abbrev main_call0_v78 : Ref sig .tc := ⟨.hbm, 123, rfl⟩
abbrev main_call0_v79 : Ref sig .tc := ⟨.hbm, 124, rfl⟩
abbrev main_call0_v80 : Ref sig .tc := ⟨.hbm, 125, rfl⟩
abbrev main_call0_v81 : Ref sig .tc := ⟨.hbm, 126, rfl⟩
abbrev main_call0_c_20 : Ref sig .tc := ⟨.hbm, 127, rfl⟩
abbrev main_call0_v82 : Ref sig .tc := ⟨.hbm, 128, rfl⟩
abbrev main_call0_v83 : Ref sig .tc := ⟨.hbm, 129, rfl⟩
abbrev main_call0_c_21 : Ref sig .tc := ⟨.hbm, 130, rfl⟩
abbrev main_call0_v84 : Ref sig .tc := ⟨.hbm, 131, rfl⟩
abbrev main_call0_v85 : Ref sig .tc := ⟨.hbm, 132, rfl⟩
abbrev main_call0_v86 : Ref sig .tc := ⟨.hbm, 133, rfl⟩
abbrev main_call0_v87 : Ref sig .tc := ⟨.hbm, 134, rfl⟩
abbrev main_call0_v88 : Ref sig .tc := ⟨.hbm, 135, rfl⟩
abbrev main_call0_c_22 : Ref sig .tc := ⟨.hbm, 136, rfl⟩
abbrev main_call0_v89 : Ref sig .tc := ⟨.hbm, 137, rfl⟩
abbrev main_call0_v90 : Ref sig .tc := ⟨.hbm, 138, rfl⟩
abbrev main_call0_c_23 : Ref sig .tc := ⟨.hbm, 139, rfl⟩
abbrev main_call0_v91 : Ref sig .tc := ⟨.hbm, 140, rfl⟩
abbrev main_call0_v92 : Ref sig .tc := ⟨.hbm, 141, rfl⟩
abbrev main_call0_v93 : Ref sig .tc := ⟨.hbm, 142, rfl⟩
abbrev main_call0_v94 : Ref sig .tc := ⟨.hbm, 143, rfl⟩
abbrev main_call0_v95 : Ref sig .tc := ⟨.hbm, 144, rfl⟩
abbrev main_call0_c_24 : Ref sig .tc := ⟨.hbm, 145, rfl⟩
abbrev main_call0_v96 : Ref sig .tc := ⟨.hbm, 146, rfl⟩
abbrev main_call0_v97 : Ref sig .tc := ⟨.hbm, 147, rfl⟩
abbrev main_call0_c_25 : Ref sig .tc := ⟨.hbm, 148, rfl⟩
abbrev main_call0_v98 : Ref sig .tc := ⟨.hbm, 149, rfl⟩
abbrev main_call0_v99 : Ref sig .tc := ⟨.hbm, 150, rfl⟩
abbrev main_call0_v100 : Ref sig .tc := ⟨.hbm, 151, rfl⟩
abbrev main_call0_v101 : Ref sig .tc := ⟨.hbm, 152, rfl⟩
abbrev main_call0_v102 : Ref sig .tc := ⟨.hbm, 153, rfl⟩
abbrev main_call0_v103 : Ref sig .tc := ⟨.hbm, 154, rfl⟩
abbrev main_call0_v104 : Ref sig .tc := ⟨.hbm, 155, rfl⟩
abbrev main_call0_v105 : Ref sig .tc := ⟨.hbm, 156, rfl⟩
abbrev main_call0_c_26 : Ref sig .tc := ⟨.hbm, 157, rfl⟩
abbrev main_call0_v106 : Ref sig .tc := ⟨.hbm, 158, rfl⟩
abbrev main_call0_v107 : Ref sig .tc := ⟨.hbm, 159, rfl⟩
abbrev main_call0_v108 : Ref sig .tc := ⟨.hbm, 160, rfl⟩
abbrev main_call0_c_27 : Ref sig .tc := ⟨.hbm, 161, rfl⟩
abbrev main_call0_v109 : Ref sig .tc := ⟨.hbm, 162, rfl⟩
abbrev main_call0_v110 : Ref sig .tc := ⟨.hbm, 163, rfl⟩
abbrev main_call0_c_28 : Ref sig .tc := ⟨.hbm, 164, rfl⟩
abbrev main_call0_v111 : Ref sig .tc := ⟨.hbm, 165, rfl⟩
abbrev main_call0_v112 : Ref sig .tc := ⟨.hbm, 166, rfl⟩
abbrev main_call0_v113 : Ref sig .tc := ⟨.hbm, 167, rfl⟩
abbrev main_call0_v114 : Ref sig .tc := ⟨.hbm, 168, rfl⟩
abbrev main_call0_v115 : Ref sig .tc := ⟨.hbm, 169, rfl⟩
abbrev main_call0_c_29 : Ref sig .tc := ⟨.hbm, 170, rfl⟩
abbrev main_call0_v116 : Ref sig .tc := ⟨.hbm, 171, rfl⟩
abbrev main_call0_v117 : Ref sig .tc := ⟨.hbm, 172, rfl⟩
abbrev main_call0_c_30 : Ref sig .tc := ⟨.hbm, 173, rfl⟩
abbrev main_call0_v118 : Ref sig .tc := ⟨.hbm, 174, rfl⟩
abbrev main_call0_v119 : Ref sig .tc := ⟨.hbm, 175, rfl⟩
abbrev main_call0_v120 : Ref sig .tc := ⟨.hbm, 176, rfl⟩
abbrev main_call0_v121 : Ref sig .tc := ⟨.hbm, 177, rfl⟩
abbrev main_call0_v122 : Ref sig .tc := ⟨.hbm, 178, rfl⟩
abbrev main_call0_c_31 : Ref sig .tc := ⟨.hbm, 179, rfl⟩
abbrev main_call0_v123 : Ref sig .tc := ⟨.hbm, 180, rfl⟩
abbrev main_call0_v124 : Ref sig .tc := ⟨.hbm, 181, rfl⟩
abbrev main_call0_c_32 : Ref sig .tc := ⟨.hbm, 182, rfl⟩
abbrev main_call0_v125 : Ref sig .tc := ⟨.hbm, 183, rfl⟩
abbrev main_call0_v126 : Ref sig .tc := ⟨.hbm, 184, rfl⟩
abbrev main_call0_v127 : Ref sig .tc := ⟨.hbm, 185, rfl⟩
abbrev main_call0_v128 : Ref sig .tc := ⟨.hbm, 186, rfl⟩
abbrev main_call0_v129 : Ref sig .tc := ⟨.hbm, 187, rfl⟩
abbrev main_call0_c_33 : Ref sig .tc := ⟨.hbm, 188, rfl⟩
abbrev main_call0_v130 : Ref sig .tc := ⟨.hbm, 189, rfl⟩
abbrev main_call0_v131 : Ref sig .tc := ⟨.hbm, 190, rfl⟩
abbrev main_call0_c_34 : Ref sig .tc := ⟨.hbm, 191, rfl⟩
abbrev main_call0_v132 : Ref sig .tc := ⟨.hbm, 192, rfl⟩
abbrev main_call0_v133 : Ref sig .tc := ⟨.hbm, 193, rfl⟩
abbrev main_call0_v134 : Ref sig .tc := ⟨.hbm, 194, rfl⟩
abbrev main_call0_v135 : Ref sig .tc := ⟨.hbm, 195, rfl⟩
abbrev main_call0_v136 : Ref sig .tc := ⟨.hbm, 196, rfl⟩
abbrev main_call0_v137 : Ref sig .tc := ⟨.hbm, 197, rfl⟩
abbrev main_call0_v138 : Ref sig .tc := ⟨.hbm, 198, rfl⟩
abbrev main_call0_v139 : Ref sig .tc := ⟨.hbm, 199, rfl⟩
abbrev main_call0_c_35 : Ref sig .tc := ⟨.hbm, 200, rfl⟩
abbrev main_call0_v140 : Ref sig .tc := ⟨.hbm, 201, rfl⟩
abbrev main_call0_v141 : Ref sig .tc := ⟨.hbm, 202, rfl⟩
abbrev main_call0_v142 : Ref sig .tc := ⟨.hbm, 203, rfl⟩
abbrev main_call0_c_36 : Ref sig .tc := ⟨.hbm, 204, rfl⟩
abbrev main_call0_v143 : Ref sig .tc := ⟨.hbm, 205, rfl⟩
abbrev main_call0_v144 : Ref sig .tc := ⟨.hbm, 206, rfl⟩
abbrev main_call0_c_37 : Ref sig .tc := ⟨.hbm, 207, rfl⟩
abbrev main_call0_v145 : Ref sig .tc := ⟨.hbm, 208, rfl⟩
abbrev main_call0_v146 : Ref sig .tc := ⟨.hbm, 209, rfl⟩
abbrev main_call0_v147 : Ref sig .tc := ⟨.hbm, 210, rfl⟩
abbrev main_call0_v148 : Ref sig .tc := ⟨.hbm, 211, rfl⟩
abbrev main_call0_v149 : Ref sig .tc := ⟨.hbm, 212, rfl⟩
abbrev main_call0_c_38 : Ref sig .tc := ⟨.hbm, 213, rfl⟩
abbrev main_call0_v150 : Ref sig .tc := ⟨.hbm, 214, rfl⟩
abbrev main_call0_v151 : Ref sig .tc := ⟨.hbm, 215, rfl⟩
abbrev main_call0_c_39 : Ref sig .tc := ⟨.hbm, 216, rfl⟩
abbrev main_call0_v152 : Ref sig .tc := ⟨.hbm, 217, rfl⟩
abbrev main_call0_v153 : Ref sig .tc := ⟨.hbm, 218, rfl⟩
abbrev main_call0_v154 : Ref sig .tc := ⟨.hbm, 219, rfl⟩
abbrev main_call0_v155 : Ref sig .tc := ⟨.hbm, 220, rfl⟩
abbrev main_call0_v156 : Ref sig .tc := ⟨.hbm, 221, rfl⟩
abbrev main_call0_c_40 : Ref sig .tc := ⟨.hbm, 222, rfl⟩
abbrev main_call0_v157 : Ref sig .tc := ⟨.hbm, 223, rfl⟩
abbrev main_call0_v158 : Ref sig .tc := ⟨.hbm, 224, rfl⟩
abbrev main_call0_c_41 : Ref sig .tc := ⟨.hbm, 225, rfl⟩
abbrev main_call0_v159 : Ref sig .tc := ⟨.hbm, 226, rfl⟩
abbrev main_call0_v160 : Ref sig .tc := ⟨.hbm, 227, rfl⟩
abbrev main_call0_v161 : Ref sig .tc := ⟨.hbm, 228, rfl⟩
abbrev main_call0_v162 : Ref sig .tc := ⟨.hbm, 229, rfl⟩
abbrev main_call0_v163 : Ref sig .tc := ⟨.hbm, 230, rfl⟩
abbrev main_call0_c_42 : Ref sig .tc := ⟨.hbm, 231, rfl⟩
abbrev main_call0_v164 : Ref sig .tc := ⟨.hbm, 232, rfl⟩
abbrev main_call0_v165 : Ref sig .tc := ⟨.hbm, 233, rfl⟩
abbrev main_call0_c_43 : Ref sig .tc := ⟨.hbm, 234, rfl⟩
abbrev main_call0_v166 : Ref sig .tc := ⟨.hbm, 235, rfl⟩
abbrev main_call0_v167 : Ref sig .tc := ⟨.hbm, 236, rfl⟩
abbrev main_call0_v168 : Ref sig .tc := ⟨.hbm, 237, rfl⟩
abbrev main_call0_v169 : Ref sig .tc := ⟨.hbm, 238, rfl⟩
abbrev main_call0_v170 : Ref sig .tc := ⟨.hbm, 239, rfl⟩
abbrev main_v18_0 : Ref sig .tc := ⟨.hbm, 240, rfl⟩
abbrev main_call0_v172 : Ref sig .tc := ⟨.hbm, 241, rfl⟩
abbrev main_call0_v173 : Ref sig .tc := ⟨.hbm, 242, rfl⟩
abbrev main_call0_c_44 : Ref sig .tc := ⟨.hbm, 243, rfl⟩
abbrev main_call0_v174 : Ref sig .tc := ⟨.hbm, 244, rfl⟩
abbrev main_v18_1 : Ref sig .tc := ⟨.hbm, 245, rfl⟩
abbrev main_v19 : Ref sig .tc := ⟨.hbm, 246, rfl⟩
abbrev main_v20 : Ref sig .tc := ⟨.hbm, 247, rfl⟩
abbrev main_v21 : Ref sig .tc := ⟨.hbm, 248, rfl⟩
abbrev main_cst : Ref sig .tc := ⟨.hbm, 249, rfl⟩
abbrev main_v22 : Ref sig .tc := ⟨.hbm, 250, rfl⟩
abbrev main_cst_4 : Ref sig .tc := ⟨.hbm, 251, rfl⟩
abbrev main_v23 : Ref sig .tc := ⟨.hbm, 252, rfl⟩
abbrev main_v24 : Ref sig .tc := ⟨.hbm, 253, rfl⟩
abbrev main_v25 : Ref sig .tc := ⟨.hbm, 254, rfl⟩
abbrev main_v26 : Ref sig .tc := ⟨.hbm, 255, rfl⟩
abbrev main_v27 : Ref sig .tc := ⟨.hbm, 256, rfl⟩
abbrev main_v28 : Ref sig .tc := ⟨.hbm, 257, rfl⟩
abbrev main_c_5 : Ref sig .tc := ⟨.hbm, 258, rfl⟩
abbrev main_v29 : Ref sig .tc := ⟨.hbm, 259, rfl⟩
abbrev main_v30 : Ref sig .tc := ⟨.hbm, 260, rfl⟩
abbrev main_c_6 : Ref sig .tc := ⟨.hbm, 261, rfl⟩
abbrev main_v31 : Ref sig .tc := ⟨.hbm, 262, rfl⟩
abbrev main_v32 : Ref sig .tc := ⟨.hbm, 263, rfl⟩
abbrev main_v33 : Ref sig .tc := ⟨.hbm, 264, rfl⟩
abbrev main_v34 : Ref sig .tc := ⟨.hbm, 265, rfl⟩
abbrev main_v35 : Ref sig .tc := ⟨.hbm, 266, rfl⟩
abbrev main_v36 : Ref sig .tc := ⟨.hbm, 267, rfl⟩
abbrev main_v37 : Ref sig .tc := ⟨.hbm, 268, rfl⟩
abbrev main_v38 : Ref sig .tc := ⟨.hbm, 269, rfl⟩
abbrev main_call1_v0 : Ref sig .tc := ⟨.hbm, 270, rfl⟩
abbrev main_call1_c : Ref sig .tc := ⟨.hbm, 271, rfl⟩
abbrev main_call1_v1 : Ref sig .tc := ⟨.hbm, 272, rfl⟩
abbrev main_call1_v2 : Ref sig .tc := ⟨.hbm, 273, rfl⟩
abbrev main_call1_v3 : Ref sig .tc := ⟨.hbm, 274, rfl⟩
abbrev main_call1_v4 : Ref sig .tc := ⟨.hbm, 275, rfl⟩
abbrev main_call1_v5 : Ref sig .tc := ⟨.hbm, 276, rfl⟩
abbrev main_call1_v6 : Ref sig .tc := ⟨.hbm, 277, rfl⟩
abbrev main_call1_v7 : Ref sig .tc := ⟨.hbm, 278, rfl⟩
abbrev main_call1_v8 : Ref sig .tc := ⟨.hbm, 279, rfl⟩
abbrev main_call1_v9 : Ref sig .tc := ⟨.hbm, 280, rfl⟩
abbrev main_call1_c_0 : Ref sig .tc := ⟨.hbm, 281, rfl⟩
abbrev main_call1_v10 : Ref sig .tc := ⟨.hbm, 282, rfl⟩
abbrev main_call1_v11 : Ref sig .tc := ⟨.hbm, 283, rfl⟩
abbrev main_call1_c_1 : Ref sig .tc := ⟨.hbm, 284, rfl⟩
abbrev main_call1_v12 : Ref sig .tc := ⟨.hbm, 285, rfl⟩
abbrev main_call1_v13 : Ref sig .tc := ⟨.hbm, 286, rfl⟩
abbrev main_call1_v14 : Ref sig .tc := ⟨.hbm, 287, rfl⟩
abbrev main_call1_v15 : Ref sig .tc := ⟨.hbm, 288, rfl⟩
abbrev main_call1_v16 : Ref sig .tc := ⟨.hbm, 289, rfl⟩
abbrev main_call1_c_2 : Ref sig .tc := ⟨.hbm, 290, rfl⟩
abbrev main_call1_v17 : Ref sig .tc := ⟨.hbm, 291, rfl⟩
abbrev main_call1_v18 : Ref sig .tc := ⟨.hbm, 292, rfl⟩
abbrev main_call1_c_3 : Ref sig .tc := ⟨.hbm, 293, rfl⟩
abbrev main_call1_v19 : Ref sig .tc := ⟨.hbm, 294, rfl⟩
abbrev main_call1_v20 : Ref sig .tc := ⟨.hbm, 295, rfl⟩
abbrev main_call1_v21 : Ref sig .tc := ⟨.hbm, 296, rfl⟩
abbrev main_call1_v22 : Ref sig .tc := ⟨.hbm, 297, rfl⟩
abbrev main_call1_v23 : Ref sig .tc := ⟨.hbm, 298, rfl⟩
abbrev main_call1_c_4 : Ref sig .tc := ⟨.hbm, 299, rfl⟩
abbrev main_call1_v24 : Ref sig .tc := ⟨.hbm, 300, rfl⟩
abbrev main_call1_v25 : Ref sig .tc := ⟨.hbm, 301, rfl⟩
abbrev main_call1_c_5 : Ref sig .tc := ⟨.hbm, 302, rfl⟩
abbrev main_call1_v26 : Ref sig .tc := ⟨.hbm, 303, rfl⟩
abbrev main_call1_v27 : Ref sig .tc := ⟨.hbm, 304, rfl⟩
abbrev main_call1_v28 : Ref sig .tc := ⟨.hbm, 305, rfl⟩
abbrev main_call1_v29 : Ref sig .tc := ⟨.hbm, 306, rfl⟩
abbrev main_call1_v30 : Ref sig .tc := ⟨.hbm, 307, rfl⟩
abbrev main_call1_c_6 : Ref sig .tc := ⟨.hbm, 308, rfl⟩
abbrev main_call1_v31 : Ref sig .tc := ⟨.hbm, 309, rfl⟩
abbrev main_call1_v32 : Ref sig .tc := ⟨.hbm, 310, rfl⟩
abbrev main_call1_c_7 : Ref sig .tc := ⟨.hbm, 311, rfl⟩
abbrev main_call1_v33 : Ref sig .tc := ⟨.hbm, 312, rfl⟩
abbrev main_call1_v34 : Ref sig .tc := ⟨.hbm, 313, rfl⟩
abbrev main_call1_v35 : Ref sig .tc := ⟨.hbm, 314, rfl⟩
abbrev main_call1_v36 : Ref sig .tc := ⟨.hbm, 315, rfl⟩
abbrev main_call1_v37 : Ref sig .tc := ⟨.hbm, 316, rfl⟩
abbrev main_call1_v38 : Ref sig .tc := ⟨.hbm, 317, rfl⟩
abbrev main_call1_v39 : Ref sig .tc := ⟨.hbm, 318, rfl⟩
abbrev main_call1_v40 : Ref sig .tc := ⟨.hbm, 319, rfl⟩
abbrev main_call1_c_8 : Ref sig .tc := ⟨.hbm, 320, rfl⟩
abbrev main_call1_v41 : Ref sig .tc := ⟨.hbm, 321, rfl⟩
abbrev main_call1_v42 : Ref sig .tc := ⟨.hbm, 322, rfl⟩
abbrev main_call1_v43 : Ref sig .tc := ⟨.hbm, 323, rfl⟩
abbrev main_call1_c_9 : Ref sig .tc := ⟨.hbm, 324, rfl⟩
abbrev main_call1_v44 : Ref sig .tc := ⟨.hbm, 325, rfl⟩
abbrev main_call1_v45 : Ref sig .tc := ⟨.hbm, 326, rfl⟩
abbrev main_call1_c_10 : Ref sig .tc := ⟨.hbm, 327, rfl⟩
abbrev main_call1_v46 : Ref sig .tc := ⟨.hbm, 328, rfl⟩
abbrev main_call1_v47 : Ref sig .tc := ⟨.hbm, 329, rfl⟩
abbrev main_call1_v48 : Ref sig .tc := ⟨.hbm, 330, rfl⟩
abbrev main_call1_v49 : Ref sig .tc := ⟨.hbm, 331, rfl⟩
abbrev main_call1_v50 : Ref sig .tc := ⟨.hbm, 332, rfl⟩
abbrev main_call1_c_11 : Ref sig .tc := ⟨.hbm, 333, rfl⟩
abbrev main_call1_v51 : Ref sig .tc := ⟨.hbm, 334, rfl⟩
abbrev main_call1_v52 : Ref sig .tc := ⟨.hbm, 335, rfl⟩
abbrev main_call1_c_12 : Ref sig .tc := ⟨.hbm, 336, rfl⟩
abbrev main_call1_v53 : Ref sig .tc := ⟨.hbm, 337, rfl⟩
abbrev main_call1_v54 : Ref sig .tc := ⟨.hbm, 338, rfl⟩
abbrev main_call1_v55 : Ref sig .tc := ⟨.hbm, 339, rfl⟩
abbrev main_call1_v56 : Ref sig .tc := ⟨.hbm, 340, rfl⟩
abbrev main_call1_v57 : Ref sig .tc := ⟨.hbm, 341, rfl⟩
abbrev main_call1_c_13 : Ref sig .tc := ⟨.hbm, 342, rfl⟩
abbrev main_call1_v58 : Ref sig .tc := ⟨.hbm, 343, rfl⟩
abbrev main_call1_v59 : Ref sig .tc := ⟨.hbm, 344, rfl⟩
abbrev main_call1_c_14 : Ref sig .tc := ⟨.hbm, 345, rfl⟩
abbrev main_call1_v60 : Ref sig .tc := ⟨.hbm, 346, rfl⟩
abbrev main_call1_v61 : Ref sig .tc := ⟨.hbm, 347, rfl⟩
abbrev main_call1_v62 : Ref sig .tc := ⟨.hbm, 348, rfl⟩
abbrev main_call1_v63 : Ref sig .tc := ⟨.hbm, 349, rfl⟩
abbrev main_call1_v64 : Ref sig .tc := ⟨.hbm, 350, rfl⟩
abbrev main_call1_c_15 : Ref sig .tc := ⟨.hbm, 351, rfl⟩
abbrev main_call1_v65 : Ref sig .tc := ⟨.hbm, 352, rfl⟩
abbrev main_call1_v66 : Ref sig .tc := ⟨.hbm, 353, rfl⟩
abbrev main_call1_c_16 : Ref sig .tc := ⟨.hbm, 354, rfl⟩
abbrev main_call1_v67 : Ref sig .tc := ⟨.hbm, 355, rfl⟩
abbrev main_call1_v68 : Ref sig .tc := ⟨.hbm, 356, rfl⟩
abbrev main_call1_v69 : Ref sig .tc := ⟨.hbm, 357, rfl⟩
abbrev main_call1_v70 : Ref sig .tc := ⟨.hbm, 358, rfl⟩
abbrev main_call1_v71 : Ref sig .tc := ⟨.hbm, 359, rfl⟩
abbrev main_call1_v72 : Ref sig .tc := ⟨.hbm, 360, rfl⟩
abbrev main_call1_v73 : Ref sig .tc := ⟨.hbm, 361, rfl⟩
abbrev main_call1_v74 : Ref sig .tc := ⟨.hbm, 362, rfl⟩
abbrev main_call1_c_17 : Ref sig .tc := ⟨.hbm, 363, rfl⟩
abbrev main_call1_v75 : Ref sig .tc := ⟨.hbm, 364, rfl⟩
abbrev main_call1_v76 : Ref sig .tc := ⟨.hbm, 365, rfl⟩
abbrev main_call1_v77 : Ref sig .tc := ⟨.hbm, 366, rfl⟩
abbrev main_call1_c_18 : Ref sig .tc := ⟨.hbm, 367, rfl⟩
abbrev main_call1_v78 : Ref sig .tc := ⟨.hbm, 368, rfl⟩
abbrev main_call1_v79 : Ref sig .tc := ⟨.hbm, 369, rfl⟩
abbrev main_call1_c_19 : Ref sig .tc := ⟨.hbm, 370, rfl⟩
abbrev main_call1_v80 : Ref sig .tc := ⟨.hbm, 371, rfl⟩
abbrev main_call1_v81 : Ref sig .tc := ⟨.hbm, 372, rfl⟩
abbrev main_call1_v82 : Ref sig .tc := ⟨.hbm, 373, rfl⟩
abbrev main_call1_v83 : Ref sig .tc := ⟨.hbm, 374, rfl⟩
abbrev main_call1_v84 : Ref sig .tc := ⟨.hbm, 375, rfl⟩
abbrev main_call1_c_20 : Ref sig .tc := ⟨.hbm, 376, rfl⟩
abbrev main_call1_v85 : Ref sig .tc := ⟨.hbm, 377, rfl⟩
abbrev main_call1_v86 : Ref sig .tc := ⟨.hbm, 378, rfl⟩
abbrev main_call1_c_21 : Ref sig .tc := ⟨.hbm, 379, rfl⟩
abbrev main_call1_v87 : Ref sig .tc := ⟨.hbm, 380, rfl⟩
abbrev main_call1_v88 : Ref sig .tc := ⟨.hbm, 381, rfl⟩
abbrev main_call1_v89 : Ref sig .tc := ⟨.hbm, 382, rfl⟩
abbrev main_call1_v90 : Ref sig .tc := ⟨.hbm, 383, rfl⟩
abbrev main_call1_v91 : Ref sig .tc := ⟨.hbm, 384, rfl⟩
abbrev main_call1_c_22 : Ref sig .tc := ⟨.hbm, 385, rfl⟩
abbrev main_call1_v92 : Ref sig .tc := ⟨.hbm, 386, rfl⟩
abbrev main_call1_v93 : Ref sig .tc := ⟨.hbm, 387, rfl⟩
abbrev main_call1_c_23 : Ref sig .tc := ⟨.hbm, 388, rfl⟩
abbrev main_call1_v94 : Ref sig .tc := ⟨.hbm, 389, rfl⟩
abbrev main_call1_v95 : Ref sig .tc := ⟨.hbm, 390, rfl⟩
abbrev main_call1_v96 : Ref sig .tc := ⟨.hbm, 391, rfl⟩
abbrev main_call1_v97 : Ref sig .tc := ⟨.hbm, 392, rfl⟩
abbrev main_call1_v98 : Ref sig .tc := ⟨.hbm, 393, rfl⟩
abbrev main_call1_c_24 : Ref sig .tc := ⟨.hbm, 394, rfl⟩
abbrev main_call1_v99 : Ref sig .tc := ⟨.hbm, 395, rfl⟩
abbrev main_call1_v100 : Ref sig .tc := ⟨.hbm, 396, rfl⟩
abbrev main_call1_c_25 : Ref sig .tc := ⟨.hbm, 397, rfl⟩
abbrev main_call1_v101 : Ref sig .tc := ⟨.hbm, 398, rfl⟩
abbrev main_call1_v102 : Ref sig .tc := ⟨.hbm, 399, rfl⟩
abbrev main_call1_v103 : Ref sig .tc := ⟨.hbm, 400, rfl⟩
abbrev main_call1_v104 : Ref sig .tc := ⟨.hbm, 401, rfl⟩
abbrev main_call1_v105 : Ref sig .tc := ⟨.hbm, 402, rfl⟩
abbrev main_call1_v106 : Ref sig .tc := ⟨.hbm, 403, rfl⟩
abbrev main_call1_v107 : Ref sig .tc := ⟨.hbm, 404, rfl⟩
abbrev main_call1_v108 : Ref sig .tc := ⟨.hbm, 405, rfl⟩
abbrev main_call1_c_26 : Ref sig .tc := ⟨.hbm, 406, rfl⟩
abbrev main_call1_v109 : Ref sig .tc := ⟨.hbm, 407, rfl⟩
abbrev main_call1_v110 : Ref sig .tc := ⟨.hbm, 408, rfl⟩
abbrev main_call1_v111 : Ref sig .tc := ⟨.hbm, 409, rfl⟩
abbrev main_call1_c_27 : Ref sig .tc := ⟨.hbm, 410, rfl⟩
abbrev main_call1_v112 : Ref sig .tc := ⟨.hbm, 411, rfl⟩
abbrev main_call1_v113 : Ref sig .tc := ⟨.hbm, 412, rfl⟩
abbrev main_call1_c_28 : Ref sig .tc := ⟨.hbm, 413, rfl⟩
abbrev main_call1_v114 : Ref sig .tc := ⟨.hbm, 414, rfl⟩
abbrev main_call1_v115 : Ref sig .tc := ⟨.hbm, 415, rfl⟩
abbrev main_call1_v116 : Ref sig .tc := ⟨.hbm, 416, rfl⟩
abbrev main_call1_v117 : Ref sig .tc := ⟨.hbm, 417, rfl⟩
abbrev main_call1_v118 : Ref sig .tc := ⟨.hbm, 418, rfl⟩
abbrev main_call1_c_29 : Ref sig .tc := ⟨.hbm, 419, rfl⟩
abbrev main_call1_v119 : Ref sig .tc := ⟨.hbm, 420, rfl⟩
abbrev main_call1_v120 : Ref sig .tc := ⟨.hbm, 421, rfl⟩
abbrev main_call1_c_30 : Ref sig .tc := ⟨.hbm, 422, rfl⟩
abbrev main_call1_v121 : Ref sig .tc := ⟨.hbm, 423, rfl⟩
abbrev main_call1_v122 : Ref sig .tc := ⟨.hbm, 424, rfl⟩
abbrev main_call1_v123 : Ref sig .tc := ⟨.hbm, 425, rfl⟩
abbrev main_call1_v124 : Ref sig .tc := ⟨.hbm, 426, rfl⟩
abbrev main_call1_v125 : Ref sig .tc := ⟨.hbm, 427, rfl⟩
abbrev main_call1_c_31 : Ref sig .tc := ⟨.hbm, 428, rfl⟩
abbrev main_call1_v126 : Ref sig .tc := ⟨.hbm, 429, rfl⟩
abbrev main_call1_v127 : Ref sig .tc := ⟨.hbm, 430, rfl⟩
abbrev main_call1_c_32 : Ref sig .tc := ⟨.hbm, 431, rfl⟩
abbrev main_call1_v128 : Ref sig .tc := ⟨.hbm, 432, rfl⟩
abbrev main_call1_v129 : Ref sig .tc := ⟨.hbm, 433, rfl⟩
abbrev main_call1_v130 : Ref sig .tc := ⟨.hbm, 434, rfl⟩
abbrev main_call1_v131 : Ref sig .tc := ⟨.hbm, 435, rfl⟩
abbrev main_call1_v132 : Ref sig .tc := ⟨.hbm, 436, rfl⟩
abbrev main_call1_c_33 : Ref sig .tc := ⟨.hbm, 437, rfl⟩
abbrev main_call1_v133 : Ref sig .tc := ⟨.hbm, 438, rfl⟩
abbrev main_call1_v134 : Ref sig .tc := ⟨.hbm, 439, rfl⟩
abbrev main_call1_c_34 : Ref sig .tc := ⟨.hbm, 440, rfl⟩
abbrev main_call1_v135 : Ref sig .tc := ⟨.hbm, 441, rfl⟩
abbrev main_call1_v136 : Ref sig .tc := ⟨.hbm, 442, rfl⟩
abbrev main_call1_v137 : Ref sig .tc := ⟨.hbm, 443, rfl⟩
abbrev main_call1_v138 : Ref sig .tc := ⟨.hbm, 444, rfl⟩
abbrev main_call1_v139 : Ref sig .tc := ⟨.hbm, 445, rfl⟩
abbrev main_call1_v140 : Ref sig .tc := ⟨.hbm, 446, rfl⟩
abbrev main_call1_v141 : Ref sig .tc := ⟨.hbm, 447, rfl⟩
abbrev main_call1_v142 : Ref sig .tc := ⟨.hbm, 448, rfl⟩
abbrev main_call1_c_35 : Ref sig .tc := ⟨.hbm, 449, rfl⟩
abbrev main_call1_v143 : Ref sig .tc := ⟨.hbm, 450, rfl⟩
abbrev main_call1_v144 : Ref sig .tc := ⟨.hbm, 451, rfl⟩
abbrev main_call1_v145 : Ref sig .tc := ⟨.hbm, 452, rfl⟩
abbrev main_call1_c_36 : Ref sig .tc := ⟨.hbm, 453, rfl⟩
abbrev main_call1_v146 : Ref sig .tc := ⟨.hbm, 454, rfl⟩
abbrev main_call1_v147 : Ref sig .tc := ⟨.hbm, 455, rfl⟩
abbrev main_call1_c_37 : Ref sig .tc := ⟨.hbm, 456, rfl⟩
abbrev main_call1_v148 : Ref sig .tc := ⟨.hbm, 457, rfl⟩
abbrev main_call1_v149 : Ref sig .tc := ⟨.hbm, 458, rfl⟩
abbrev main_call1_v150 : Ref sig .tc := ⟨.hbm, 459, rfl⟩
abbrev main_call1_v151 : Ref sig .tc := ⟨.hbm, 460, rfl⟩
abbrev main_call1_v152 : Ref sig .tc := ⟨.hbm, 461, rfl⟩
abbrev main_call1_c_38 : Ref sig .tc := ⟨.hbm, 462, rfl⟩
abbrev main_call1_v153 : Ref sig .tc := ⟨.hbm, 463, rfl⟩
abbrev main_call1_v154 : Ref sig .tc := ⟨.hbm, 464, rfl⟩
abbrev main_call1_c_39 : Ref sig .tc := ⟨.hbm, 465, rfl⟩
abbrev main_call1_v155 : Ref sig .tc := ⟨.hbm, 466, rfl⟩
abbrev main_call1_v156 : Ref sig .tc := ⟨.hbm, 467, rfl⟩
abbrev main_call1_v157 : Ref sig .tc := ⟨.hbm, 468, rfl⟩
abbrev main_call1_v158 : Ref sig .tc := ⟨.hbm, 469, rfl⟩
abbrev main_call1_v159 : Ref sig .tc := ⟨.hbm, 470, rfl⟩
abbrev main_call1_c_40 : Ref sig .tc := ⟨.hbm, 471, rfl⟩
abbrev main_call1_v160 : Ref sig .tc := ⟨.hbm, 472, rfl⟩
abbrev main_call1_v161 : Ref sig .tc := ⟨.hbm, 473, rfl⟩
abbrev main_call1_c_41 : Ref sig .tc := ⟨.hbm, 474, rfl⟩
abbrev main_call1_v162 : Ref sig .tc := ⟨.hbm, 475, rfl⟩
abbrev main_call1_v163 : Ref sig .tc := ⟨.hbm, 476, rfl⟩
abbrev main_call1_v164 : Ref sig .tc := ⟨.hbm, 477, rfl⟩
abbrev main_call1_v165 : Ref sig .tc := ⟨.hbm, 478, rfl⟩
abbrev main_call1_v166 : Ref sig .tc := ⟨.hbm, 479, rfl⟩
abbrev main_call1_c_42 : Ref sig .tc := ⟨.hbm, 480, rfl⟩
abbrev main_call1_v167 : Ref sig .tc := ⟨.hbm, 481, rfl⟩
abbrev main_call1_v168 : Ref sig .tc := ⟨.hbm, 482, rfl⟩
abbrev main_call1_c_43 : Ref sig .tc := ⟨.hbm, 483, rfl⟩
abbrev main_call1_v169 : Ref sig .tc := ⟨.hbm, 484, rfl⟩
abbrev main_call1_v170 : Ref sig .tc := ⟨.hbm, 485, rfl⟩
abbrev main_call1_v171 : Ref sig .tc := ⟨.hbm, 486, rfl⟩
abbrev main_call1_v172 : Ref sig .tc := ⟨.hbm, 487, rfl⟩
abbrev main_call1_v173 : Ref sig .tc := ⟨.hbm, 488, rfl⟩
abbrev main_v39_0 : Ref sig .tc := ⟨.hbm, 489, rfl⟩
abbrev main_call1_v175 : Ref sig .tc := ⟨.hbm, 490, rfl⟩
abbrev main_call1_v176 : Ref sig .tc := ⟨.hbm, 491, rfl⟩
abbrev main_call1_c_44 : Ref sig .tc := ⟨.hbm, 492, rfl⟩
abbrev main_call1_v177 : Ref sig .tc := ⟨.hbm, 493, rfl⟩
abbrev main_v39_1 : Ref sig .tc := ⟨.hbm, 494, rfl⟩
abbrev main_v40 : Ref sig .tc := ⟨.hbm, 495, rfl⟩
abbrev main_c_7 : Ref sig .tc := ⟨.hbm, 496, rfl⟩
abbrev main_v41 : Ref sig .tc := ⟨.hbm, 497, rfl⟩
abbrev main_v42 : Ref sig .tc := ⟨.hbm, 498, rfl⟩
abbrev main_c_8 : Ref sig .tc := ⟨.hbm, 499, rfl⟩
abbrev main_v43 : Ref sig .tc := ⟨.hbm, 500, rfl⟩
abbrev main_v44 : Ref sig .tc := ⟨.hbm, 501, rfl⟩
abbrev main_v45 : Ref sig .tc := ⟨.hbm, 502, rfl⟩
abbrev main_cst_9 : Ref sig .tc := ⟨.hbm, 503, rfl⟩
abbrev main_v46 : Ref sig .tc := ⟨.hbm, 504, rfl⟩
abbrev main_v47 : Ref sig .tc := ⟨.hbm, 505, rfl⟩
abbrev main_v48 : Ref sig .tc := ⟨.hbm, 506, rfl⟩
abbrev main_v49 : Ref sig .tc := ⟨.hbm, 507, rfl⟩
abbrev main_v50 : Ref sig .tc := ⟨.hbm, 508, rfl⟩
abbrev main_v51 : Ref sig .tc := ⟨.hbm, 509, rfl⟩
abbrev main_v52 : Ref sig .tc := ⟨.hbm, 510, rfl⟩
abbrev main_v53 : Ref sig .tc := ⟨.hbm, 511, rfl⟩
abbrev main_v54 : Ref sig .tc := ⟨.hbm, 512, rfl⟩
abbrev main_v55 : Ref sig .tc := ⟨.hbm, 513, rfl⟩
abbrev main_v56 : Ref sig .tc := ⟨.hbm, 514, rfl⟩
abbrev main_v57 : Ref sig .tc := ⟨.hbm, 515, rfl⟩
abbrev main_v58 : Ref sig .tc := ⟨.hbm, 516, rfl⟩
abbrev main_v59 : Ref sig .tc := ⟨.hbm, 517, rfl⟩
abbrev main_v60 : Ref sig .tc := ⟨.hbm, 518, rfl⟩
abbrev main_v61 : Ref sig .tc := ⟨.hbm, 519, rfl⟩
abbrev main_v62 : Ref sig .tc := ⟨.hbm, 520, rfl⟩
abbrev main_v63 : Ref sig .tc := ⟨.hbm, 521, rfl⟩
abbrev main_v64 : Ref sig .tc := ⟨.hbm, 522, rfl⟩
abbrev main_v65 : Ref sig .tc := ⟨.hbm, 523, rfl⟩
abbrev main_v66 : Ref sig .tc := ⟨.hbm, 524, rfl⟩
abbrev main_v67 : Ref sig .tc := ⟨.hbm, 525, rfl⟩
abbrev main_v68 : Ref sig .tc := ⟨.hbm, 526, rfl⟩
abbrev main_v69 : Ref sig .tc := ⟨.hbm, 527, rfl⟩
abbrev main_v70 : Ref sig .tc := ⟨.hbm, 528, rfl⟩
abbrev main_cst_10 : Ref sig .tc := ⟨.hbm, 529, rfl⟩
abbrev main_v71 : Ref sig .tc := ⟨.hbm, 530, rfl⟩
abbrev main_v72 : Ref sig .tc := ⟨.hbm, 531, rfl⟩
abbrev main_v73 : Ref sig .tc := ⟨.hbm, 532, rfl⟩
abbrev main_cst_11 : Ref sig .tc := ⟨.hbm, 533, rfl⟩
abbrev main_v74 : Ref sig .tc := ⟨.hbm, 534, rfl⟩
abbrev main_v75 : Ref sig .tc := ⟨.hbm, 535, rfl⟩
abbrev main_v76 : Ref sig .tc := ⟨.hbm, 536, rfl⟩
abbrev main_values : Ref sig .tc := ⟨.hbm, 537, rfl⟩
abbrev main_indices : Ref sig .tc := ⟨.hbm, 538, rfl⟩
abbrev main_v77 : Ref sig .tc := ⟨.hbm, 539, rfl⟩
abbrev main_cst_12 : Ref sig .tc := ⟨.hbm, 540, rfl⟩
abbrev main_v78 : Ref sig .tc := ⟨.hbm, 541, rfl⟩
abbrev main_c_13 : Ref sig .tc := ⟨.hbm, 542, rfl⟩
abbrev main_v79 : Ref sig .tc := ⟨.hbm, 543, rfl⟩
abbrev main_v80 : Ref sig .tc := ⟨.hbm, 544, rfl⟩
abbrev main_c_14 : Ref sig .tc := ⟨.hbm, 545, rfl⟩
abbrev main_v81 : Ref sig .tc := ⟨.hbm, 546, rfl⟩
abbrev main_v82 : Ref sig .tc := ⟨.hbm, 547, rfl⟩
abbrev main_v83 : Ref sig .tc := ⟨.hbm, 548, rfl⟩
abbrev main_v84 : Ref sig .tc := ⟨.hbm, 549, rfl⟩
abbrev main_v85 : Ref sig .tc := ⟨.hbm, 550, rfl⟩
abbrev main_c_15 : Ref sig .tc := ⟨.hbm, 551, rfl⟩
abbrev main_v86 : Ref sig .tc := ⟨.hbm, 552, rfl⟩
abbrev main_v87 : Ref sig .tc := ⟨.hbm, 553, rfl⟩
abbrev main_cst_16 : Ref sig .tc := ⟨.hbm, 554, rfl⟩
abbrev main_v88 : Ref sig .tc := ⟨.hbm, 555, rfl⟩
abbrev main_c_17 : Ref sig .tc := ⟨.hbm, 556, rfl⟩
abbrev main_c_18 : Ref sig .tc := ⟨.hbm, 557, rfl⟩
abbrev main_v89_0 : Ref sig .tc := ⟨.hbm, 558, rfl⟩
abbrev main_v89_1 : Ref sig .tc := ⟨.hbm, 559, rfl⟩
abbrev main_v89_2 : Ref sig .tc := ⟨.hbm, 560, rfl⟩
abbrev main_v89_3 : Ref sig .tc := ⟨.hbm, 561, rfl⟩
abbrev main_v89_4 : Ref sig .tc := ⟨.hbm, 562, rfl⟩
abbrev main_v89_5 : Ref sig .tc := ⟨.hbm, 563, rfl⟩
abbrev main_v89_6 : Ref sig .tc := ⟨.hbm, 564, rfl⟩
abbrev main_v89_7 : Ref sig .tc := ⟨.hbm, 565, rfl⟩
abbrev main_while0c_c_29 : Ref sig .tc := ⟨.hbm, 566, rfl⟩
abbrev main_while0c_v116 : Ref sig .tc := ⟨.hbm, 567, rfl⟩
abbrev main_while0b_c_29 : Ref sig .tc := ⟨.hbm, 568, rfl⟩
abbrev main_while0b_v116 : Ref sig .tc := ⟨.hbm, 569, rfl⟩
abbrev main_while0b_v117 : Ref sig .tc := ⟨.hbm, 570, rfl⟩
abbrev main_while0b_v118 : Ref sig .tc := ⟨.hbm, 571, rfl⟩
abbrev main_while0b_cst_30 : Ref sig .tc := ⟨.hbm, 572, rfl⟩
abbrev main_while0b_v119 : Ref sig .tc := ⟨.hbm, 573, rfl⟩
abbrev main_while0b_v120 : Ref sig .tc := ⟨.hbm, 574, rfl⟩
abbrev main_while0b_v121 : Ref sig .tc := ⟨.hbm, 575, rfl⟩
abbrev main_while0b_v122 : Ref sig .tc := ⟨.hbm, 576, rfl⟩
abbrev main_while0b_v123 : Ref sig .tc := ⟨.hbm, 577, rfl⟩
abbrev main_while0b_v124 : Ref sig .tc := ⟨.hbm, 578, rfl⟩
abbrev main_while0b_v125 : Ref sig .tc := ⟨.hbm, 579, rfl⟩
abbrev main_while0b_v126 : Ref sig .tc := ⟨.hbm, 580, rfl⟩
abbrev main_while0b_cst_31 : Ref sig .tc := ⟨.hbm, 581, rfl⟩
abbrev main_while0b_v127 : Ref sig .tc := ⟨.hbm, 582, rfl⟩
abbrev main_while0b_v128 : Ref sig .tc := ⟨.hbm, 583, rfl⟩
abbrev main_while0b_v129 : Ref sig .tc := ⟨.hbm, 584, rfl⟩
abbrev main_while0b_v130 : Ref sig .tc := ⟨.hbm, 585, rfl⟩
abbrev main_while0b_cst_32 : Ref sig .tc := ⟨.hbm, 586, rfl⟩
abbrev main_while0b_v131 : Ref sig .tc := ⟨.hbm, 587, rfl⟩
abbrev main_while0b_v132 : Ref sig .tc := ⟨.hbm, 588, rfl⟩
abbrev main_while0b_v133 : Ref sig .tc := ⟨.hbm, 589, rfl⟩
abbrev main_while0b_v134 : Ref sig .tc := ⟨.hbm, 590, rfl⟩
abbrev main_while0b_values_33 : Ref sig .tc := ⟨.hbm, 591, rfl⟩
abbrev main_while0b_indices_34 : Ref sig .tc := ⟨.hbm, 592, rfl⟩
abbrev main_while0b_v135 : Ref sig .tc := ⟨.hbm, 593, rfl⟩
abbrev main_while0b_v136 : Ref sig .tc := ⟨.hbm, 594, rfl⟩
abbrev main_while0b_v137 : Ref sig .tc := ⟨.hbm, 595, rfl⟩
abbrev main_while0b_v138 : Ref sig .tc := ⟨.hbm, 596, rfl⟩
abbrev main_while0b_v139 : Ref sig .tc := ⟨.hbm, 597, rfl⟩
abbrev main_while0b_v140 : Ref sig .tc := ⟨.hbm, 598, rfl⟩
abbrev main_while0b_v141 : Ref sig .tc := ⟨.hbm, 599, rfl⟩
abbrev main_while0b_v142 : Ref sig .tc := ⟨.hbm, 600, rfl⟩
abbrev main_while0b_v143 : Ref sig .tc := ⟨.hbm, 601, rfl⟩
abbrev main_while0b_v144 : Ref sig .tc := ⟨.hbm, 602, rfl⟩
abbrev main_while0b_v145 : Ref sig .tc := ⟨.hbm, 603, rfl⟩
abbrev main_while0b_v146 : Ref sig .tc := ⟨.hbm, 604, rfl⟩
abbrev main_while0b_cst_35 : Ref sig .tc := ⟨.hbm, 605, rfl⟩
abbrev main_while0b_v147 : Ref sig .tc := ⟨.hbm, 606, rfl⟩
abbrev main_while0b_v148 : Ref sig .tc := ⟨.hbm, 607, rfl⟩
abbrev main_while0b_v149 : Ref sig .tc := ⟨.hbm, 608, rfl⟩
abbrev main_while0b_cst_36 : Ref sig .tc := ⟨.hbm, 609, rfl⟩
abbrev main_while0b_v150 : Ref sig .tc := ⟨.hbm, 610, rfl⟩
abbrev main_while0b_v151 : Ref sig .tc := ⟨.hbm, 611, rfl⟩
abbrev main_while0b_v152 : Ref sig .tc := ⟨.hbm, 612, rfl⟩
abbrev main_while0b_v153 : Ref sig .tc := ⟨.hbm, 613, rfl⟩
abbrev main_while0b_v154 : Ref sig .tc := ⟨.hbm, 614, rfl⟩
abbrev main_while0b_cst_37 : Ref sig .tc := ⟨.hbm, 615, rfl⟩
abbrev main_while0b_v155 : Ref sig .tc := ⟨.hbm, 616, rfl⟩
abbrev main_while0b_cst_38 : Ref sig .tc := ⟨.hbm, 617, rfl⟩
abbrev main_while0b_call2_v0 : Ref sig .tc := ⟨.hbm, 618, rfl⟩
abbrev main_while0b_call2_v1 : Ref sig .tc := ⟨.hbm, 619, rfl⟩
abbrev main_while0b_call2_v2 : Ref sig .tc := ⟨.hbm, 620, rfl⟩
abbrev main_while0b_v156 : Ref sig .tc := ⟨.hbm, 621, rfl⟩
abbrev main_while0b_values_39 : Ref sig .tc := ⟨.hbm, 622, rfl⟩
abbrev main_while0b_indices_40 : Ref sig .tc := ⟨.hbm, 623, rfl⟩
abbrev main_while0b_c_41 : Ref sig .tc := ⟨.hbm, 624, rfl⟩
abbrev main_while0b_v157 : Ref sig .tc := ⟨.hbm, 625, rfl⟩
abbrev main_while0b_v158 : Ref sig .tc := ⟨.hbm, 626, rfl⟩
abbrev main_while0b_c_42 : Ref sig .tc := ⟨.hbm, 627, rfl⟩
abbrev main_while0b_v159 : Ref sig .tc := ⟨.hbm, 628, rfl⟩
abbrev main_while0b_v160 : Ref sig .tc := ⟨.hbm, 629, rfl⟩
abbrev main_while0b_v161 : Ref sig .tc := ⟨.hbm, 630, rfl⟩
abbrev main_while0b_v162 : Ref sig .tc := ⟨.hbm, 631, rfl⟩
abbrev main_while0b_v163 : Ref sig .tc := ⟨.hbm, 632, rfl⟩
abbrev main_while0b_cst_43 : Ref sig .tc := ⟨.hbm, 633, rfl⟩
abbrev main_while0b_v164 : Ref sig .tc := ⟨.hbm, 634, rfl⟩
abbrev main_while0b_v165 : Ref sig .tc := ⟨.hbm, 635, rfl⟩
abbrev main_while0b_v166 : Ref sig .tc := ⟨.hbm, 636, rfl⟩
abbrev main_while0b_call3_v0 : Ref sig .tc := ⟨.hbm, 637, rfl⟩
abbrev main_while0b_call3_v1 : Ref sig .tc := ⟨.hbm, 638, rfl⟩
abbrev main_while0b_v167 : Ref sig .tc := ⟨.hbm, 639, rfl⟩
abbrev main_while0b_v168 : Ref sig .tc := ⟨.hbm, 640, rfl⟩
abbrev main_while0b_cst_44 : Ref sig .tc := ⟨.hbm, 641, rfl⟩
abbrev main_while0b_v169 : Ref sig .tc := ⟨.hbm, 642, rfl⟩
abbrev main_while0b_c_45 : Ref sig .tc := ⟨.hbm, 643, rfl⟩
abbrev main_while0b_v170 : Ref sig .tc := ⟨.hbm, 644, rfl⟩
abbrev main_v90 : Ref sig .tc := ⟨.hbm, 645, rfl⟩
abbrev main_v91 : Ref sig .tc := ⟨.hbm, 646, rfl⟩
abbrev main_v92 : Ref sig .tc := ⟨.hbm, 647, rfl⟩
abbrev main_cst_19 : Ref sig .tc := ⟨.hbm, 648, rfl⟩
abbrev main_v93 : Ref sig .tc := ⟨.hbm, 649, rfl⟩
abbrev main_v94 : Ref sig .tc := ⟨.hbm, 650, rfl⟩
abbrev main_v95 : Ref sig .tc := ⟨.hbm, 651, rfl⟩
abbrev main_v96 : Ref sig .tc := ⟨.hbm, 652, rfl⟩
abbrev main_v97 : Ref sig .tc := ⟨.hbm, 653, rfl⟩
abbrev main_v98 : Ref sig .tc := ⟨.hbm, 654, rfl⟩
abbrev main_v99 : Ref sig .tc := ⟨.hbm, 655, rfl⟩
abbrev main_v100 : Ref sig .tc := ⟨.hbm, 656, rfl⟩
abbrev main_v101 : Ref sig .tc := ⟨.hbm, 657, rfl⟩
abbrev main_v102 : Ref sig .tc := ⟨.hbm, 658, rfl⟩
abbrev main_v103 : Ref sig .tc := ⟨.hbm, 659, rfl⟩
abbrev main_v104 : Ref sig .tc := ⟨.hbm, 660, rfl⟩
abbrev main_v105 : Ref sig .tc := ⟨.hbm, 661, rfl⟩
abbrev main_v106 : Ref sig .tc := ⟨.hbm, 662, rfl⟩
abbrev main_v107 : Ref sig .tc := ⟨.hbm, 663, rfl⟩
abbrev main_cst_20 : Ref sig .tc := ⟨.hbm, 664, rfl⟩
abbrev main_v108 : Ref sig .tc := ⟨.hbm, 665, rfl⟩
abbrev main_v109 : Ref sig .tc := ⟨.hbm, 666, rfl⟩
abbrev main_v110 : Ref sig .tc := ⟨.hbm, 667, rfl⟩
abbrev main_cst_21 : Ref sig .tc := ⟨.hbm, 668, rfl⟩
abbrev main_v111 : Ref sig .tc := ⟨.hbm, 669, rfl⟩
abbrev main_v112 : Ref sig .tc := ⟨.hbm, 670, rfl⟩
abbrev main_v113 : Ref sig .tc := ⟨.hbm, 671, rfl⟩
abbrev main_v114 : Ref sig .tc := ⟨.hbm, 672, rfl⟩
abbrev main_v115 : Ref sig .tc := ⟨.hbm, 673, rfl⟩

abbrev nD : Nat := 1
abbrev τ : Topo := Topo.v7x

variable {F : FTy → Type} [FloatOps F]

abbrev main_while0_count : Scf.Loop 32 := ⟨0#32, 10#32, 1#32⟩
-- ==== Proof.PI.Vectors.lean ====
/-
  What the kernel's body computes, as functions on vectors: one Lloyd update of one mask, the extraction of the five
  starting pixels, and the block of results. Every definition spells the operations of the printed body, so that the
  body's payloads are these functions by unfolding.
-/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- Five centroids: their rows and their columns. -/
abbrev Cents (F : FTy → Type) : Type := (Fin 5 → F .f32) × (Fin 5 → F .f32)

/-- The squared distance of every pixel to the centroid `(cy, cx)`, clamped at zero. -/
def dist (sq yb xb : FVec F S512x512 .f32) (cy cx : F .f32) : FVec F S512x512 .f32 :=
  maximumf
    (subf (addf sq (broadcast S512x512 (Scalar.addf (Scalar.mulf cy cy) (Scalar.mulf cx cx))))
      (mulf (broadcast S512x512 (Scalar.ofBits .f32 0x40000000#32))
        (addf (mulf yb (broadcast S512x512 (Scalar.extf .f32 bitsLt_bf16_f32 (Scalar.truncf .bf16 bitsLt_bf16_f32 cy))))
          (mulf xb (broadcast S512x512 (Scalar.extf .f32 bitsLt_bf16_f32 (Scalar.truncf .bf16 bitsLt_bf16_f32 cx)))))))
    (broadcast S512x512 (Scalar.ofBits .f32 0x00000000#32))

/-- One more cluster compared with the nearest so far: a strictly smaller distance takes its place. -/
def closer (b : FVec F S512x512 .f32 × IVec S512x512 32) (d : FVec F S512x512 .f32) (k : BitVec 32) :
    FVec F S512x512 .f32 × IVec S512x512 32 :=
  (select (cmpf .olt d b.1) d b.1, select (cmpf .olt d b.1) (broadcast S512x512 k) b.2)

/-- The least distance of every pixel and the first cluster that attains it. -/
def nearest (sq yb xb : FVec F S512x512 .f32) (s : Cents F) : FVec F S512x512 .f32 × IVec S512x512 32 :=
  closer (closer (closer (closer (dist sq yb xb (s.1 0) (s.2 0), broadcast S512x512 0#32)
    (dist sq yb xb (s.1 1) (s.2 1)) 1#32) (dist sq yb xb (s.1 2) (s.2 2)) 2#32)
    (dist sq yb xb (s.1 3) (s.2 3)) 3#32) (dist sq yb xb (s.1 4) (s.2 4)) 4#32

/-- The pixels of cluster `k` that are set, as ones and zeros. -/
def members (fgf : FVec F S512x512 .f32) (bk : IVec S512x512 32) (k : BitVec 32) : FVec F S512x512 .f32 :=
  select (cmpi .eq bk (broadcast S512x512 k)) fgf (broadcast S512x512 (Scalar.ofBits .f32 0x00000000#32))

/-- The column totals of a vector, as the first row of a product with a matrix of ones. -/
def colTotals (ones8 : FVec F S8x512 .f32) (v : FVec F S512x512 .f32) : FVec F S1x512 .f32 :=
  extractStridedSlice S1x512 ![0, 0]
    (matmul dot_S8x512_S512x512_S8x512_1_0_0_1_n_n none ones8 v (constant S8x512 .f32 0x00000000#32)) slices_S8x512_o0_0_S1x512

/-- The row totals of a vector, as the first column of a product with a matrix of ones. -/
def rowTotals (ones8' : FVec F S512x8 .f32) (v : FVec F S512x512 .f32) : FVec F S512x1 .f32 :=
  extractStridedSlice S512x1 ![0, 0]
    (matmul dot_S512x512_S512x8_S512x8_1_0_0_1_n_n none v ones8' (constant S512x8 .f32 0x00000000#32)) slices_S512x8_o0_0_S512x1

/-- The total of a row vector. -/
def sumRow (v : FVec F S1x512 .f32) : F .f32 :=
  extractAt ![0, 0, 0] (shapeCast S1x1x1 (multiReduction .add [1, 2] S1 (shapeCast S1x1x512 v shapeCasts_S1x512_S1x1x512)
    0x00000000#32 reduces_S1x1x512_S1 (.inl rfl) rfl) shapeCasts_S1_S1x1x1) inpos_S1x1x1_p0_0_0

/-- The total of a column vector. -/
def sumCol (v : FVec F S512x1 .f32) : F .f32 :=
  extractAt ![0, 0, 0] (shapeCast S1x1x1 (multiReduction .add [1, 2] S1 (shapeCast S1x512x1 v shapeCasts_S512x1_S1x512x1)
    0x00000000#32 reduces_S1x512x1_S1 (.inl rfl) rfl) shapeCasts_S1_S1x1x1) inpos_S1x1x1_p0_0_0

/-- The total of a plane. -/
def sumPlane (v : FVec F S512x512 .f32) : F .f32 :=
  extractAt ![0, 0, 0] (shapeCast S1x1x1 (multiReduction .add [1, 2] S1 (shapeCast S1x512x512 v shapeCasts_S512x512_S1x512x512)
    0x00000000#32 reduces_S1x512x512_S1 (.inl rfl) rfl) shapeCasts_S1_S1x1x1) inpos_S1x1x1_p0_0_0

/-- The least pixel index (of the indices `p`) at which `s` takes its greatest value. -/
def firstMax (p : IVec S512x512 32) (s : FVec F S512x512 .f32) : BitVec 32 :=
  extractAt ![0, 0, 0] (shapeCast S1x1x1 (multiReductionI .minsi [1, 2] S1
    (shapeCast S1x512x512
      (select
        (cmpf .oeq s (broadcast S512x512
          (extractAt ![0, 0, 0] (shapeCast S1x1x1 (multiReduction .maximumf [1, 2] S1
            (shapeCast S1x512x512 s shapeCasts_S512x512_S1x512x512)
            0xFF800000#32 reduces_S1x512x512_S1 (.inl rfl) rfl) shapeCasts_S1_S1x1x1) inpos_S1x1x1_p0_0_0)))
        p (broadcast S512x512 1073741824#32)) shapeCasts_S512x512_S1x512x512)
    2147483647#32 reduces_S1x512x512_S1 rfl) shapeCasts_S1_S1x1x1) inpos_S1x1x1_p0_0_0

/-- The row of a pixel index: the floor of its quotient by 512. -/
def rowWord (i : BitVec 32) : BitVec 32 :=
  Scalar.select
    (Scalar.andi
      (Scalar.cmpi .ne (Scalar.subi (Scalar.extui (Scalar.cmpi .sgt i 0#32) : BitVec 32) (Scalar.extui (Scalar.cmpi .slt i 0#32)))
        (Scalar.subi (Scalar.extui (Scalar.cmpi .sgt 512#32 0#32)) (Scalar.extui (Scalar.cmpi .slt 512#32 0#32))))
      (Scalar.cmpi .ne (Scalar.remsi i 512#32) 0#32))
    (Scalar.subi (Scalar.divsi i 512#32) 1#32) (Scalar.divsi i 512#32)

/-- The divisor 512, guarded against zero. -/
def width : BitVec 32 := Scalar.select (Scalar.cmpi .eq 512#32 0#32) 1#32 512#32

/-- The column of a pixel index: the remainder of the floor division by 512. -/
def colWord (i : BitVec 32) : BitVec 32 :=
  Scalar.select
    (Scalar.andi (Scalar.xori (Scalar.cmpi .slt (Scalar.remsi i width) 0#32) (Scalar.cmpi .slt width 0#32))
      (Scalar.cmpi .ne (Scalar.remsi i width) 0#32))
    (Scalar.addi (Scalar.remsi i width) width) (Scalar.remsi i width)

/-- The row of a pixel index as a number. -/
def rowOf (i : BitVec 32) : F .f32 := Scalar.sitofp .f32 (rowWord i)
/-- The column of a pixel index as a number. -/
def colOf (i : BitVec 32) : F .f32 := Scalar.sitofp .f32 (colWord i)

/-- Whether the least of five counts is at most zero, as a word. -/
def anyEmpty (n : Fin 5 → F .f32) : BitVec 1 :=
  Scalar.cmpi .ne (Scalar.extui (Scalar.cmpf .ole
    (Scalar.minimumf (Scalar.minimumf (Scalar.minimumf (n 0) (n 1)) (Scalar.minimumf (n 2) (n 3))) (n 4))
    (Scalar.ofBits .f32 0x00000000#32 : F .f32)) : BitVec 32) 0#32

/-- The pixel that replaces an empty cluster: the set pixel farthest from its nearest centroid. -/
def farPixel (p : IVec S512x512 32) (fg : IVec S512x512 1) (best : FVec F S512x512 .f32) : BitVec 32 :=
  firstMax p (select fg best (broadcast S512x512 (Scalar.ofBits .f32 0xFF800000#32)))

/-- The row and column used for an empty cluster: zeros when no cluster is empty. -/
def fallback (p : IVec S512x512 32) (fg : IVec S512x512 1) (best : FVec F S512x512 .f32) (n : Fin 5 → F .f32) : F .f32 × F .f32 :=
  if anyEmpty n = 1#1 then (rowOf (farPixel p fg best), colOf (farPixel p fg best))
  else (Scalar.ofBits .f32 0x00000000#32, Scalar.ofBits .f32 0x00000000#32)

/-- A centroid's new coordinate: the mean of its members, or the fallback when it has none. -/
def mean (n s f : F .f32) : F .f32 :=
  Scalar.select (Scalar.cmpf .ogt n (Scalar.ofBits .f32 0x00000000#32))
    (Scalar.divf s (Scalar.maximumf n (Scalar.ofBits .f32 0x3F800000#32))) f

/-- The words of the five clusters. -/
def word5 (k : Fin 5) : BitVec 32 := ![0#32, 1#32, 2#32, 3#32, 4#32] k

/-- The pixel indices. -/
abbrev pix : IVec S512x512 32 := k0_pay132
/-- The number of members of cluster `k`. -/
def cnt (fgf : FVec F S512x512 .f32) (bk : IVec S512x512 32) (k : Fin 5) : F .f32 :=
  sumRow (colTotals k0_pay186 (members fgf bk (word5 k)))
/-- The sum of the columns of the members of cluster `k`. -/
def sumX (fgf : FVec F S512x512 .f32) (bk : IVec S512x512 32) (k : Fin 5) : F .f32 :=
  sumRow (mulf (colTotals k0_pay186 (members fgf bk (word5 k))) k0_pay188)
/-- The sum of the rows of the members of cluster `k`. -/
def sumY (fgf : FVec F S512x512 .f32) (bk : IVec S512x512 32) (k : Fin 5) : F .f32 :=
  sumCol (mulf (rowTotals k0_pay187 (members fgf bk (word5 k))) k0_pay189)

/-- One Lloyd update of one mask's centroids. -/
def update (p : IVec S512x512 32) (sq yb xb : FVec F S512x512 .f32) (fg : IVec S512x512 1) (fgf : FVec F S512x512 .f32)
    (s : Cents F) : Cents F :=
  (fun k => mean (cnt fgf (nearest sq yb xb s).2 k) (sumY fgf (nearest sq yb xb s).2 k)
      (fallback p fg (nearest sq yb xb s).1 (cnt fgf (nearest sq yb xb s).2)).1,
   fun k => mean (cnt fgf (nearest sq yb xb s).2 k) (sumX fgf (nearest sq yb xb s).2 k)
      (fallback p fg (nearest sq yb xb s).1 (cnt fgf (nearest sq yb xb s).2)).2)

/-- The loop's twenty carried numbers. -/
abbrev Carry (F : FTy → Type) : Type :=
  F .f32 × F .f32 × F .f32 × F .f32 × F .f32 × F .f32 × F .f32 × F .f32 × F .f32 × F .f32 × F .f32 × F .f32 × F .f32 × F .f32
    × F .f32 × F .f32 × F .f32 × F .f32 × F .f32 × F .f32

/-- The carried numbers of the two masks' centroids. -/
def carry (a b : Cents F) : Carry F :=
  (a.1 0, a.1 1, a.1 2, a.1 3, a.1 4, a.2 0, a.2 1, a.2 2, a.2 3, a.2 4,
   b.1 0, b.1 1, b.1 2, b.1 3, b.1 4, b.2 0, b.2 1, b.2 2, b.2 3, b.2 4)

/-- The first mask's centroids among the carried numbers. -/
def first (a : Carry F) : Cents F :=
  match a with
  | (a0, a1, a2, a3, a4, b0, b1, b2, b3, b4, _) => (![a0, a1, a2, a3, a4], ![b0, b1, b2, b3, b4])

/-- The second mask's centroids among the carried numbers. -/
def second (a : Carry F) : Cents F :=
  match a with
  | (_, _, _, _, _, _, _, _, _, _, a0, a1, a2, a3, a4, b0, b1, b2, b3, b4) => (![a0, a1, a2, a3, a4], ![b0, b1, b2, b3, b4])

/-- `n` applications of `f`. -/
def after (f : Cents F → Cents F) (s : Cents F) : ℕ → Cents F
  | 0 => s
  | n + 1 => f (after f s n)

/-- The scores with the pixel `i` struck out. -/
def strike (p : IVec S512x512 32) (s : FVec F S512x512 .f32) (i : BitVec 32) : FVec F S512x512 .f32 :=
  select (cmpi .eq p (broadcast S512x512 i)) (broadcast S512x512 (Scalar.ofBits .f32 0xFF800000#32)) s

/-- The scores after the first `n` extractions. -/
def left (p : IVec S512x512 32) (s : FVec F S512x512 .f32) : ℕ → FVec F S512x512 .f32
  | 0 => s
  | n + 1 => strike p (left p s n) (firstMax p (left p s n))

/-- The `n`-th extracted pixel. -/
def pick (p : IVec S512x512 32) (s : FVec F S512x512 .f32) (n : ℕ) : BitVec 32 := firstMax p (left p s n)

/-- The starting centroids: the rows and columns of the five extracted pixels. -/
def starts (p : IVec S512x512 32) (s : FVec F S512x512 .f32) : Cents F :=
  (fun k => rowOf (pick p s k), fun k => colOf (pick p s k))

/-! ## From a block of masks and a block of noise -/

/-- The set pixels of a mask. -/
def fgOf (x : Vec F S1x512x512 .f32) : IVec S512x512 1 := k0_pay138 x
/-- The set pixels of a mask, as ones and zeros. -/
def fgfOf (x : Vec F S1x512x512 .f32) : FVec F S512x512 .f32 := k0_pay140 x

/-- The scores: the noise, with ten more at the set pixels. -/
def scores (x u : Vec F S1x512x512 .f32) : FVec F S512x512 .f32 :=
  addf (shapeCast S512x512 u shapeCasts_S1x512x512_S512x512)
    (select (fgOf x) (broadcast S512x512 (Scalar.ofBits .f32 0x41200000#32)) (broadcast S512x512 (Scalar.ofBits .f32 0x00000000#32)))

/-- One update on the kernel's own grids. -/
def upd (x : Vec F S1x512x512 .f32) : Cents F → Cents F := update k0_pay132 k0_pay133 k0_pay134 k0_pay135 (fgOf x) (fgfOf x)

/-- The centroids after `n` updates. -/
def cents (x u : Vec F S1x512x512 .f32) (n : ℕ) : Cents F := after (upd x) (starts k0_pay132 (scores x u)) n

/-- The number of set pixels is at most five. -/
def few (x : Vec F S1x512x512 .f32) : BitVec 1 := Scalar.cmpf .ole (sumPlane (fgfOf x)) (Scalar.ofBits .f32 0x40A00000#32)

/-- The cluster of every pixel after nine updates. -/
def label (x u : Vec F S1x512x512 .f32) : IVec S512x512 32 := (nearest k0_pay133 k0_pay134 k0_pay135 (cents x u 9)).2

/-- The mask of cluster `k`: its set pixels, or, when few pixels are set, the mask itself for the first cluster and nothing
    for the others. -/
def plane (x u : Vec F S1x512x512 .f32) (k : Fin 5) : FVec F S1x1x512x512 .f32 :=
  shapeCast S1x1x512x512
    (Scalar.select (few x)
      ((![shapeCast S512x512 x shapeCasts_S1x512x512_S512x512, broadcast S512x512 (Scalar.ofBits .f32 0x00000000#32),
          broadcast S512x512 (Scalar.ofBits .f32 0x00000000#32), broadcast S512x512 (Scalar.ofBits .f32 0x00000000#32),
          broadcast S512x512 (Scalar.ofBits .f32 0x00000000#32)] : Fin 5 → FVec F S512x512 .f32) k)
      (select (andi (fgOf x) (cmpi .eq (label x u) (broadcast S512x512 (word5 k))))
        (broadcast S512x512 (Scalar.ofBits .f32 0x3F800000#32)) (broadcast S512x512 (Scalar.ofBits .f32 0x00000000#32))))
    shapeCasts_S512x512_S1x1x512x512

end Cert.KernelIdeal.Hand

end
-- ==== Proof.PI.Loop.lean ====
/-
  One trip of the kernel's loop: the region of the counted loop is a pure function of the carried numbers, one Lloyd update
  of each mask; and the loop's invariant says the carried numbers are the two masks' centroids after so many updates.
-/
module

public import proofs.«01_k».proof.Proof.PI.Vectors
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- With an empty cluster the fallback is the far pixel. -/
theorem fallback_pos {p : IVec S512x512 32} {fg : IVec S512x512 1} {best : FVec F S512x512 .f32} {n : Fin 5 → F .f32}
    (h : anyEmpty n = 1#1) : fallback p fg best n = (rowOf (farPixel p fg best), colOf (farPixel p fg best)) := if_pos h

/-- With no empty cluster the fallback is zero. -/
theorem fallback_neg {p : IVec S512x512 32} {fg : IVec S512x512 1} {best : FVec F S512x512 .f32} {n : Fin 5 → F .f32}
    (h : ¬ anyEmpty n = 1#1) :
    fallback p fg best n = (Scalar.ofBits .f32 0x00000000#32, Scalar.ofBits .f32 0x00000000#32) := if_neg h

set_option maxRecDepth 65536 in
set_option maxHeartbeats 1000000 in
/-- The loop's region returns the two masks' centroids, each updated once. -/
theorem region_eq (i : grid0.Coords) (arg1 : Memref sig .tc .vmem S2x512x512 .f32) (harg1 : arg1.IsWhole) (arg2 : Memref sig .tc .vmem S2x512x512 .f32) (harg2 : arg2.IsWhole) (arg3 : Memref sig .tc .vmem S2x5x512x512 .f32) (harg3 : arg3.IsWhole) (v6 : IVec S512x512 32) (v9 : FVec F S512x512 .f32) (v11 : FVec F S512x512 .f32) (v13 : FVec F S512x512 .f32) (v19 : IVec S512x512 1) (v21 : IVec S512x512 1) (v24 : FVec F S512x512 .f32) (v27 : FVec F S512x512 .f32) (v77 : F .f32) (v88 : F .f32) (v122 : F .f32) (v133 : F .f32) (v167 : F .f32) (v178 : F .f32) (v212 : F .f32) (v223 : F .f32) (v257 : F .f32) (v268 : F .f32) (v302 : F .f32) (v313 : F .f32) (v347 : F .f32) (v358 : F .f32) (v392 : F .f32) (v403 : F .f32) (v437 : F .f32) (v448 : F .f32) (v460 : BitVec 32) (v461 : BitVec 32) (v472 : BitVec 1) (v473 : BitVec 32)
    (k : Fin k0_t1_loop.trips) (a b : Cents F) :
    k0_t1_body (F := F) i arg1 harg1 arg2 harg2 arg3 harg3 v6 v9 v11 v13 v19 v21 v24 v27 v77 v88 v122 v133 v167 v178 v212 v223 v257 v268 v302 v313 v347 v358 v392 v403 v437 v448 v460 v461 v472 v473 k (carry a b)
      = pure (carry (update v6 v9 v11 v13 v19 v24 a) (update v6 v9 v11 v13 v21 v27 b)) := by
  obtain ⟨ay, ax⟩ := a
  obtain ⟨by_, bx⟩ := b
  simp only [k0_t1_body, carry, k0_part11_eq_skeleton, k0_part11_skel, k0_part1_eq_skeleton, k0_part1_skel,
    k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel,
    pure_bind]
  split <;> rename_i h1 <;> simp only [pure_bind] <;> split <;> rename_i h2 <;> simp only [pure_bind, update]
  · rw [fallback_pos (n := cnt v24 (nearest v9 v11 v13 (ay, ax)).2) h1, fallback_pos (n := cnt v27 (nearest v9 v11 v13 (by_, bx)).2) h2]
    rfl
  · rw [fallback_pos (n := cnt v24 (nearest v9 v11 v13 (ay, ax)).2) h1, fallback_neg (n := cnt v27 (nearest v9 v11 v13 (by_, bx)).2) h2]
    rfl
  · rw [fallback_neg (n := cnt v24 (nearest v9 v11 v13 (ay, ax)).2) h1, fallback_pos (n := cnt v27 (nearest v9 v11 v13 (by_, bx)).2) h2]
    rfl
  · rw [fallback_neg (n := cnt v24 (nearest v9 v11 v13 (ay, ax)).2) h1, fallback_neg (n := cnt v27 (nearest v9 v11 v13 (by_, bx)).2) h2]
    rfl

/-- The carried numbers are the two masks' centroids. -/
theorem carry_eta (a : Carry F) : a = carry (first a) (second a) := rfl

set_option warn.classDefReducibility false in
/-- THE LOOP'S INVARIANT: before trip `k` the carried numbers are the two masks' centroids after `k` updates. -/
@[sl_loop] def loopInv (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S2x5x512x512 .f32) (harg3 : arg3.IsWhole) (v6 : IVec S512x512 32) (v9 : FVec F S512x512 .f32) (v11 : FVec F S512x512 .f32) (v13 : FVec F S512x512 .f32) (v19 : IVec S512x512 1) (v21 : IVec S512x512 1) (v24 : FVec F S512x512 .f32) (v27 : FVec F S512x512 .f32) (v77 : F .f32) (v88 : F .f32) (v122 : F .f32) (v133 : F .f32) (v167 : F .f32) (v178 : F .f32) (v212 : F .f32) (v223 : F .f32) (v257 : F .f32) (v268 : F .f32) (v302 : F .f32) (v313 : F .f32) (v347 : F .f32) (v358 : F .f32) (v392 : F .f32) (v403 : F .f32) (v437 : F .f32) (v448 : F .f32) (v460 : BitVec 32) (v461 : BitVec 32) (v472 : BitVec 1) (v473 : BitVec 32) (init : Carry F) :
    LoopInvTy_k0_t1 (F := F) Unit ℕ (UR sig nD τ) ℕ Variants.none c none Set.univ i arg1 harg1 arg2 harg2 arg3 harg3 v6 v9 v11 v13 v19 v21 v24 v27 v77 v88 v122 v133 v167 v178 v212 v223 v257 v268 v302 v313 v347 v358 v392 v403 v437 v448 v460 v461 v472 v473 init where
  inv k acc := iprop(⌜acc = carry (after (update v6 v9 v11 v13 v19 v24) (first init) k)
    (after (update v6 v9 v11 v13 v21 v27) (second init) k)⌝)
  step k acc := by
    iintro %h
    subst h
    rw [region_eq]
    sl_step
    ipureintro
    rfl

end Cert.KernelIdeal.Hand

end
-- ==== Proof.PI.Body.lean ====
/-
  The kernel's body run once: from the two input blocks and an output buffer at anything to the output buffer written with
  the ten planes, two masks by five clusters.
-/
module

public import proofs.«01_k».proof.Proof.PI.Loop
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The ten stores of the body, newest first: mask by mask, cluster by cluster. -/
abbrev pieces (x0 x1 u0 u1 : Vec F S1x512x512 .f32) : List (View.Piece (Elt F) S2x5x512x512 .f32) :=
  [⟨Rect.unit (s := S2x5x512x512) ![1, 4, 0, 0] S1x1x512x512.size inb_S2x5x512x512_S1x1x512x512_1_4_0_0, plane x1 u1 4⟩,
   ⟨Rect.unit (s := S2x5x512x512) ![1, 3, 0, 0] S1x1x512x512.size inb_S2x5x512x512_S1x1x512x512_1_3_0_0, plane x1 u1 3⟩,
   ⟨Rect.unit (s := S2x5x512x512) ![1, 2, 0, 0] S1x1x512x512.size inb_S2x5x512x512_S1x1x512x512_1_2_0_0, plane x1 u1 2⟩,
   ⟨Rect.unit (s := S2x5x512x512) ![1, 1, 0, 0] S1x1x512x512.size inb_S2x5x512x512_S1x1x512x512_1_1_0_0, plane x1 u1 1⟩,
   ⟨Rect.unit (s := S2x5x512x512) ![1, 0, 0, 0] S1x1x512x512.size inb_S2x5x512x512_S1x1x512x512_1_0_0_0, plane x1 u1 0⟩,
   ⟨Rect.unit (s := S2x5x512x512) ![0, 4, 0, 0] S1x1x512x512.size inb_S2x5x512x512_S1x1x512x512_0_4_0_0, plane x0 u0 4⟩,
   ⟨Rect.unit (s := S2x5x512x512) ![0, 3, 0, 0] S1x1x512x512.size inb_S2x5x512x512_S1x1x512x512_0_3_0_0, plane x0 u0 3⟩,
   ⟨Rect.unit (s := S2x5x512x512) ![0, 2, 0, 0] S1x1x512x512.size inb_S2x5x512x512_S1x1x512x512_0_2_0_0, plane x0 u0 2⟩,
   ⟨Rect.unit (s := S2x5x512x512) ![0, 1, 0, 0] S1x1x512x512.size inb_S2x5x512x512_S1x1x512x512_0_1_0_0, plane x0 u0 1⟩,
   ⟨Rect.unit (s := S2x5x512x512) ![0, 0, 0, 0] S1x1x512x512.size inb_S2x5x512x512_S1x1x512x512_0_0_0_0, plane x0 u0 0⟩]

/-- The rectangle of mask 0 in a block of two, -/
abbrev r0 : Rect S2x512x512 := Rect.unit (s := S2x512x512) ![0, 0, 0] S1x512x512.size inb_S2x512x512_S1x512x512_0_0_0
/-- and of mask 1. -/
abbrev r1 : Rect S2x512x512 := Rect.unit (s := S2x512x512) ![1, 0, 0] S1x512x512.size inb_S2x512x512_S1x512x512_1_0_0

set_option maxHeartbeats 2000000 in
/-- On whole staging buffers for the masks, the noise and the results, the body runs to the results buffer written with the ten
    planes of the two masks, the inputs as they were. -/
theorem body_run (c : Dev nD) (i : grid0.Coords) (arg1 : Memref sig .tc .vmem S2x512x512 .f32) (harg1 : arg1.IsWhole)
    (arg2 : Memref sig .tc .vmem S2x512x512 .f32) (harg2 : arg2.IsWhole)
    (arg3 : Memref sig .tc .vmem S2x5x512x512 .f32) (harg3 : arg3.IsWhole)
    (f1 : Buf (Elt F) (arg1.view.loc (c : Thread nD τ))) (f2 : Buf (Elt F) (arg2.view.loc (c : Thread nD τ)))
    (f3 : Buf (Elt F) (arg3.view.loc (c : Thread nD τ))) (K : PUnit → sProp 𝕄) :
    iprop((arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (iprop((arg1.view.loc (c : Thread nD τ) ↦[arg1.view.set]{fullShare} f1)
            ∗ (arg2.view.loc (c : Thread nD τ) ↦[arg2.view.set]{fullShare} f2)
            ∗ (arg3.view.loc (c : Thread nD τ) ↦[arg3.view.set]{fullShare} arg3.view.writes (Elt F) f3
                (pieces (arg1.view.readAt (Elt F) r0.toLoadRect f1) (arg1.view.readAt (Elt F) r1.toLoadRect f1)
                  (arg2.view.readAt (Elt F) r0.toLoadRect f2) (arg2.view.readAt (Elt F) r1.toLoadRect f2)))) -∗ K ⟨⟩))
      ⊢ wp frame (wpE (defs₀ (F := F)) Variants.none c none) Set.univ
          (cc0__kmeans_body i arg1 harg1 arg2 harg2 arg3 harg3) K := by
  simp only [cc0__kmeans_body_eq_skeleton]
  unfold cc0__kmeans_body_skel
  iintro ⟨H1, H2, H3, Hk⟩
  sl_exec
  sl_step
  iapply Hk
  isplitl [H1]; · iexact H1
  isplitl [H2]; · iexact H2
  iexact H3

end Cert.KernelIdeal.Hand

end
-- ==== Proof.PI.Run.lean ====
/-
  The run of the whole program: the proof data of its one pipeline, the obligation of the body at every grid point, and the
  run's post with every semaphore at zero; and the frame.
-/
module

public import proofs.«01_k».proof.Proof.PI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ten stores cover the block. -/
theorem cover (x0 x1 u0 u1 : Vec F S1x512x512 .f32) (y : S2x5x512x512.Idx) :
    ∃ pc ∈ pieces (F := F) x0 x1 u0 u1, y ∈ pc.1.set :=
  View.cover_of_tiledL (pieces x0 x1 u0 u1) S1x1x512x512.size (by sl_kernel_rfl) y

/-- The block of masks at point `t`, -/
def xblk (c : Dev nD) (t : Fin cfg0.N) : Vec F S2x512x512 .f32 := iblk m c 0 t
/-- and the block of noise. -/
def ublk (c : Dev nD) (t : Fin cfg0.N) : Vec F S2x512x512 .f32 := iblk m c 1 t

/-- The block of results of a block of masks and a block of noise. -/
def block (x u : Vec F S2x512x512 .f32) : Vec F S2x5x512x512 .f32 :=
  View.canon (Val := Elt F) (pieces (View.ld (Val := Elt F) x r0) (View.ld (Val := Elt F) x r1) (View.ld (Val := Elt F) u r0) (View.ld (Val := Elt F) u r1))

/-- The proof data of the pipeline on core `c`: the arrays as the region finds them, the inputs' buffers left in place, the
    results' buffer at the block of results, nothing owed. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => ublk m c t
    | ⟨2, _⟩ => block (xblk m c t) (ublk m c t)
  Φ _ := Pipeline.ΦA spec0 c
  q _ := fullShare
  owed _ := 0

/-- The proof data's arrays are those at the region's entry. -/
theorem A_eq (c : Dev nD) (w : Fin cfg0.W) : (dats m 0 c).A w = V m c (Pipeline.arrRef spec0 w) := by
  dsimp only [dats]
/-- The body leaves the masks' block in place. -/
theorem after0_0 (c : Dev nD) (t : Fin cfg0.N) : (dats m 0 c).after 0 t = xblk m c t := by dsimp only [dats]
/-- The body leaves the noise's block in place. -/
theorem after0_1 (c : Dev nD) (t : Fin cfg0.N) : (dats m 0 c).after 1 t = ublk m c t := by dsimp only [dats]
/-- The body leaves the block of results. -/
theorem after0_2 (c : Dev nD) (t : Fin cfg0.N) : (dats m 0 c).after 2 t = block (xblk m c t) (ublk m c t) := by dsimp only [dats]
/-- The body finds the masks' block. -/
theorem before0_0 (c : Dev nD) (t : Fin cfg0.N) (d) : (dats m 0 c).before 0 t d = xblk m c t :=
  before0_0_of m (dats m 0 c) (A_eq m c 0) (after0_0 m c) t d
/-- The body finds the noise's block. -/
theorem before0_1 (c : Dev nD) (t : Fin cfg0.N) (d) : (dats m 0 c).before 1 t d = ublk m c t :=
  before0_1_of m (dats m 0 c) (A_eq m c 1) (after0_1 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body's triple at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2]
  simp only [before0_0, before0_1]
  unfold Dat.owesAt Pipeline.owesWithin
  rw [show (dats m 0 c).owed t.castSucc = 0 from rfl, show (dats m 0 c).owed t.succ = 0 from rfl]
  generalize hx : xblk m c t = x
  generalize hu : ublk m c t = u
  unfold owns
  iintro ⟨HΦ, ⟨%W, -, HW⟩, ⟨%d0, %f0, %h0, H0⟩, ⟨%d1, %f1, %h1, H1⟩, ⟨%d2, %f2, -, H2⟩⟩
  iapply (body_run c (grid0.coords t) (st0_0 t) _ (st0_1 t) _ (st0_2 t) _ f0 f1 f2 _)
  isplitl [H0]; · iexact H0
  isplitl [H1]; · iexact H1
  isplitl [H2]; · iexact H2
  iintro ⟨H0, H1, H2⟩
  isplitl [HΦ]; · iexact HΦ
  isplitl [HW]
  · iexists W; isplitr; · ipureintro; exact fun _ _ => Or.inl trivial
    iexact HW
  isplitl [H0]
  · iexists _; isplitr
    swap; · iexact H0
    ipureintro; exact h0
  isplitl [H1]
  · iexists _; isplitr
    swap; · iexact H1
    ipureintro; exact h1
  iexists _; isplitr
  swap; · iexact H2
  ipureintro
  refine (View.read_writes_eq_canon _ _ _ (cover _ _ _ _)).trans ?_
  subst h0 h1
  rfl

/-- The pipeline's call of the body at point `t`. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN: the region and the line after it, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- THE FRAME: the argument ends as launched and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c =>
    ((h.1 c).2 main_arg0 (Pipeline.mem_restRefs_of main_arg0 (by decide) (by decide))).trans (W_main_arg0 m (dats m) c), h.2⟩)
    (run_main m ρ)

end Cert.KernelIdeal.Hand

end
-- ==== Proof.RI.Spec.lean ====
/-
  Lloyd's rounds on one mask of 512 × 512 pixels, in extended reals: what the kernel and the reference both compute. A
  pixel is its position in row-major order; a choice of the greatest of finitely many values is the first position that
  attains it.
-/
module

public import Idealize.ShloMosaic.Lib.Pointwise
public import Idealize.ShloMosaic.Lib.SortPrefix

@[expose] public section

noncomputable section

namespace Cert.Means

open Idealize.ShloMosaic

/-! ## The first greatest position -/

/-- `i` is the first position at which `f` is greatest. -/
def FirstMax {n : ℕ} (f : Fin n → EReal) (i : Fin n) : Prop := ∀ j, f j < f i ∨ (f j = f i ∧ i ≤ j)

/-- There is at most one first greatest position. -/
theorem FirstMax.unique {n : ℕ} {f : Fin n → EReal} {i j : Fin n} (hi : FirstMax f i) (hj : FirstMax f j) : i = j := by
  rcases hi j with a | ⟨a, b⟩ <;> rcases hj i with c | ⟨c, d⟩
  · exact absurd a (lt_asymm c)
  · rw [c] at a; exact absurd a (lt_irrefl _)
  · rw [a] at c; exact absurd c (lt_irrefl _)
  · exact le_antisymm b d

/-- The values are at most the one at the first greatest position. -/
theorem FirstMax.le {n : ℕ} {f : Fin n → EReal} {i : Fin n} (hi : FirstMax f i) (j : Fin n) : f j ≤ f i := by
  rcases hi j with a | ⟨a, _⟩
  · exact a.le
  · exact a.le

/-- Finitely many values have a first greatest position. -/
theorem exists_firstMax {n : ℕ} [NeZero n] (f : Fin n → EReal) : ∃ i, FirstMax f i := by
  classical
  obtain ⟨m, hm⟩ := Finite.exists_max f
  let S : Finset (Fin n) := Finset.univ.filter fun j => f j = f m
  have hS : S.Nonempty := ⟨m, by simp [S]⟩
  have hi : f (S.min' hS) = f m := by have := S.min'_mem hS; simpa [S] using this
  refine ⟨S.min' hS, fun j => ?_⟩
  rcases (hm j).lt_or_eq with h | h
  · left; rw [hi]; exact h
  · right; exact ⟨by rw [hi]; exact h, S.min'_le j (by simp [S, h])⟩

/-- The first greatest position. -/
def arg {n : ℕ} [NeZero n] (f : Fin n → EReal) : Fin n := (exists_firstMax f).choose

/-- The chosen position is a first greatest one. -/
theorem arg_spec {n : ℕ} [NeZero n] (f : Fin n → EReal) : FirstMax f (arg f) := (exists_firstMax f).choose_spec

/-- A first greatest position is the chosen one. -/
theorem arg_eq {n : ℕ} [NeZero n] {f : Fin n → EReal} {i : Fin n} (h : FirstMax f i) : arg f = i := (arg_spec f).unique h

/-- An order-preserving change of the values keeps the first greatest position. -/
theorem FirstMax.of_lt_iff {n : ℕ} {f g : Fin n → EReal} (h : ∀ i j, f i < f j ↔ g i < g j) {i : Fin n} (hf : FirstMax f i) :
    FirstMax g i := by
  intro j
  rcases hf j with a | ⟨a, b⟩
  · exact .inl ((h _ _).mp a)
  · refine .inr ⟨le_antisymm ?_ ?_, b⟩
    · exact not_lt.mp fun c => by have := (h _ _).mpr c; rw [a] at this; exact lt_irrefl _ this
    · exact not_lt.mp fun c => by have := (h _ _).mpr c; rw [a] at this; exact lt_irrefl _ this

/-- The chosen position depends on the order of the values alone. -/
theorem arg_congr {n : ℕ} [NeZero n] {f g : Fin n → EReal} (h : ∀ i j, f i < f j ↔ g i < g j) : arg f = arg g :=
  ((arg_eq ((arg_spec f).of_lt_iff h))).symm

/-! ## The stable sort, greatest first -/

/-- The stable sort by the value alone is the sort by the value and then the position. -/
theorem stableSort_eq {n : ℕ} (x : Fin n → EReal) (l : List (Fin n)) (hl : l.Pairwise (· < ·)) :
    stableSort (fun k k' => decide (x k' < x k)) l
      = stableSort (fun k k' => decide (x k' < x k) || (decide (x k = x k') && decide (k < k'))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [this]

/-- The order by the value and then the position. -/
theorem total_before {n : ℕ} (x : Fin n → EReal) :
    StrictTotalBefore fun k k' : Fin n => decide (x k' < x k) || (decide (x k = x k') && decide (k < k')) := by
  refine StrictTotalBefore.of_key_then_position (fun a b : EReal => decide (b < a)) x ?_ ?_ ?_
  · intro a; simp
  · intro a b c h h'; simp only [decide_eq_true_eq] at *; exact h'.trans h
  · intro a b; simp only [decide_eq_true_eq]; rcases lt_trichotomy a b with h | h | h
    · exact .inr (.inr h)
    · exact .inr (.inl h)
    · exact .inl h

/-- The position that the sort puts at `i` is the first greatest among those not put before it. -/
theorem sorted_rank {n : ℕ} (x : Fin n → EReal) (i j : Fin n)
    (hj : ∀ i' < i, sortedFrom (fun k k' => decide (x k' < x k)) i' ≠ j) :
    x j < x (sortedFrom (fun k k' => decide (x k' < x k)) i)
      ∨ (x j = x (sortedFrom (fun k k' => decide (x k' < x k)) i) ∧ sortedFrom (fun k k' => decide (x k' < x k)) i ≤ j) := by
  set R : Fin n → Fin n → Bool := fun k k' => decide (x k' < x k) with hR
  set B : Fin n → Fin n → Bool := fun k k' => decide (x k' < x k) || (decide (x k = x k') && decide (k < k')) with hB
  have e : sortedFrom R = sortedFrom B := by
    funext k
    unfold sortedFrom
    have : sortPositions n R = sortPositions n B :=
      stableSort_eq x _ (List.pairwise_lt_finRange n)
    rw [List.get_of_eq this]
    rfl
  obtain ⟨i'', rfl⟩ := sortedFrom_surjective R j
  rcases lt_trichotomy i'' i with h | h | h
  · exact absurd rfl (hj _ h)
  · subst h; exact .inr ⟨rfl, le_refl _⟩
  · have hs : B (sortedFrom B i'') (sortedFrom B i) = false :=
      sortedFrom_noInversion B B (fun a b h => (total_before x).asymm a b h) (fun _ _ h => h) (total_before x).negTrans i i'' h
    rw [← e] at hs
    simp only [hB, Bool.or_eq_false_iff, decide_eq_false_iff_not, Bool.and_eq_false_iff, not_lt] at hs
    rcases hs.1.lt_or_eq with h' | h'
    · exact .inl h'
    · right
      refine ⟨h', ?_⟩
      rcases hs.2 with h2 | h2
      · exact absurd h' h2
      · exact h2

/-- The sort's first position is the first greatest. -/
theorem sorted_zero {n : ℕ} [NeZero n] (x : Fin n → EReal) (i : Fin n) (hi : i.val = 0) :
    sortedFrom (fun k k' => decide (x k' < x k)) i = arg x :=
  (arg_eq fun j => sorted_rank x i j fun i' h => absurd h (by rw [Fin.lt_def, hi]; exact Nat.not_lt_zero _)).symm

/-- The values with the first `m` choices struck out. -/
def rem {n : ℕ} [NeZero n] (f : Fin n → EReal) : ℕ → Fin n → EReal
  | 0 => f
  | m + 1 => fun j => if j = arg (rem f m) then ⊥ else rem f m j

/-- The `m`-th choice. -/
def choice {n : ℕ} [NeZero n] (f : Fin n → EReal) (m : ℕ) : Fin n := arg (rem f m)

/-- What is left of the values after some choices, at a position. -/
theorem rem_eq {n : ℕ} [NeZero n] (f : Fin n → EReal) (m : ℕ) (j : Fin n) :
    rem f m j = if ∃ a < m, choice f a = j then ⊥ else f j := by
  induction m with
  | zero => simp [rem]
  | succ m ih =>
    show (if j = arg (rem f m) then ⊥ else rem f m j) = _
    by_cases h : j = arg (rem f m)
    · rw [if_pos h, if_pos ⟨m, Nat.lt_succ_self m, h.symm⟩]
    · rw [if_neg h, ih]
      congr 1
      refine propext ⟨fun ⟨a, ha, e⟩ => ⟨a, Nat.lt_succ_of_lt ha, e⟩, fun ⟨a, ha, e⟩ => ⟨a, ?_, e⟩⟩
      rcases Nat.lt_succ_iff_lt_or_eq.mp ha with h' | rfl
      · exact h'
      · exact absurd e.symm h

/-- The sort puts the choices in order, where no value is `⊥`. -/
theorem sorted_choice {n : ℕ} [NeZero n] (f : Fin n → EReal) (hf : ∀ j, f j ≠ ⊥) (m : ℕ) (hm : m < n) :
    sortedFrom (fun k k' => decide (f k' < f k)) ⟨m, hm⟩ = choice f m := by
  induction m using Nat.strong_induction_on with
  | _ m ih =>
    refine (arg_eq ?_).symm
    have hne : ∀ a < m, choice f a ≠ sortedFrom (fun k k' => decide (f k' < f k)) ⟨m, hm⟩ := fun a ha e => by
      rw [← ih a ha (ha.trans hm)] at e
      have := congrArg Fin.val (sortedFrom_injective _ e)
      simp only at this
      omega
    have hs : rem f m (sortedFrom (fun k k' => decide (f k' < f k)) ⟨m, hm⟩)
        = f (sortedFrom (fun k k' => decide (f k' < f k)) ⟨m, hm⟩) := by
      rw [rem_eq, if_neg]
      rintro ⟨a, ha, e⟩
      exact hne a ha e
    intro j
    rw [hs, rem_eq]
    split
    · exact .inl (bot_lt_iff_ne_bot.mpr (hf _))
    · rename_i h
      refine sorted_rank f _ j fun i' hi' e => h ⟨i'.val, hi', ?_⟩
      rw [← ih i'.val hi' i'.isLt]
      exact e

/-! ## The rounds -/

/-- A pixel's row and column. -/
def coord (p : Fin 262144) (i : Fin 2) : EReal :=
  FloatOps.sitofp (F := Ideal) .f32 (if i.val < 1 then BitVec.ofNat 32 (p.val / 512) else BitVec.ofNat 32 (p.val % 512) : BitVec 32)

/-- The clamped squared distance of a pixel to a centroid. -/
def dst (C : Fin 5 → Fin 2 → EReal) (p : Fin 262144) (k : Fin 5) : EReal :=
  max (coord p 0 * coord p 0 + coord p 1 * coord p 1 + (C k 0 * C k 0 + C k 1 * C k 1)
    - Ideal.ofBits .f32 0x40000000#32 * (coord p 0 * C k 0 + coord p 1 * C k 1)) 0

/-- The first nearest centroid. -/
def lab (C : Fin 5 → Fin 2 → EReal) (p : Fin 262144) : Fin 5 := arg fun k => -dst C p k

/-- Whether a set pixel belongs to cluster `k`, as one or zero. -/
def mem (fg : Fin 262144 → Bool) (C : Fin 5 → Fin 2 → EReal) (p : Fin 262144) (k : Fin 5) : EReal :=
  if lab C p = k ∧ fg p = true then 1 else 0

/-- The number of members of a cluster. -/
def size (fg : Fin 262144 → Bool) (C : Fin 5 → Fin 2 → EReal) (k : Fin 5) : EReal := ∑ p, mem fg C p k

/-- The set pixel farthest from its nearest centroid. -/
def far (fg : Fin 262144 → Bool) (C : Fin 5 → Fin 2 → EReal) : Fin 262144 :=
  arg fun p => if fg p = true then dst C p (lab C p) else ⊥

/-- One round: every centroid moves to the mean of its members, or to the farthest pixel when it has none. -/
def next (fg : Fin 262144 → Bool) (C : Fin 5 → Fin 2 → EReal) : Fin 5 → Fin 2 → EReal := fun k i =>
  if 0 < size fg C k then Ideal.div (∑ p, mem fg C p k * coord p i) (max (size fg C k) 1) else coord (far fg C) i

/-- The centroids after `n` rounds from the five greatest scores. -/
def after (fg : Fin 262144 → Bool) (score : Fin 262144 → EReal) : ℕ → Fin 5 → Fin 2 → EReal
  | 0 => fun k i => coord (choice score k.val) i
  | n + 1 => next fg (after fg score n)

/-- The scores: the noise, and ten more at the set pixels. -/
def scoreOf (u : Fin 262144 → EReal) (fg : Fin 262144 → Bool) (p : Fin 262144) : EReal :=
  u p + if fg p = true then Ideal.ofBits .f32 0x41200000#32 else 0

/-- A squared distance is not negative. -/
theorem dst_nonneg (C : Fin 5 → Fin 2 → EReal) (p : Fin 262144) (k : Fin 5) : 0 ≤ dst C p k := le_max_right _ _

/-- The first nearest centroid is nearest. -/
theorem lab_le (C : Fin 5 → Fin 2 → EReal) (p : Fin 262144) (k : Fin 5) : dst C p (lab C p) ≤ dst C p k :=
  EReal.neg_le_neg_iff.mp ((arg_spec fun k => -dst C p k).le k)

/-- Cluster `k`'s mask at pixel `p`, where the mask's value is `v`: after nine rounds the members, or, where at most five pixels
    are set, the mask itself for the first cluster and nothing for the others. -/
def result (fg : Fin 262144 → Bool) (u : Fin 262144 → EReal) (v : EReal) (p : Fin 262144) (k : Fin 5) : EReal :=
  if (∑ p, if fg p = true then (1 : EReal) else 0) ≤ Ideal.ofBits .f32 0x40A00000#32 then (if k = 0 then v else 0)
  else if lab (after fg (scoreOf u fg) 9) p = k ∧ fg p = true then 1 else 0

/-- A pixel from its row and column. -/
def px (r c : Fin 512) : Fin 262144 := ⟨r.val * 512 + c.val, by omega⟩

/-- Rows and columns are pixels. -/
def pxEquiv : Fin 512 × Fin 512 ≃ Fin 262144 where
  toFun q := px q.1 q.2
  invFun p := (⟨p.val / 512, by omega⟩, ⟨p.val % 512, by omega⟩)
  left_inv q := by
    rcases q with ⟨r, c⟩
    refine Prod.ext (Fin.ext ?_) (Fin.ext ?_) <;> simp only [px] <;> omega
  right_inv p := by refine Fin.ext ?_; simp only [px]; omega

/-- A sum over the pixels, row by row. -/
theorem sum_px (f : Fin 262144 → EReal) : ∑ p, f p = ∑ r, ∑ c, f (px r c) := by
  rw [← Equiv.sum_comp pxEquiv f, Fintype.sum_prod_type]; rfl

/-- A pixel's first coordinate is its row. -/
theorem coord_px_zero (r c : Fin 512) : coord (px r c) 0 = FloatOps.sitofp (F := Ideal) .f32 (BitVec.ofNat 32 r.val) := by
  have : (px r c).val / 512 = r.val := by simp only [px]; omega
  simp [coord, this]

/-- A pixel's second coordinate is its column. -/
theorem coord_px_one (r c : Fin 512) : coord (px r c) 1 = FloatOps.sitofp (F := Ideal) .f32 (BitVec.ofNat 32 c.val) := by
  have : (px r c).val % 512 = c.val := by simp only [px]; omega
  simp [coord, this]

end Cert.Means

end
-- ==== Proof.RI.Root.lean ====
/-
  The square root, the order and sums of extended reals.
-/
module

public import Idealize.ShloMosaic.Lib.Pointwise

@[expose] public section

noncomputable section

namespace Cert.Means

open Idealize.ShloMosaic

/-- The root of infinity. -/
theorem sqrt_top : Ideal.sqrt ⊤ = ⊤ := rfl

/-- The root of a real that is not negative. -/
theorem sqrt_coe {x : ℝ} (hx : 0 ≤ x) : Ideal.sqrt (x : EReal) = (Real.sqrt x : ℝ) := by
  show (if x < 0 then ⊥ else ((Real.sqrt x : ℝ) : EReal)) = _
  rw [if_neg (not_lt.mpr hx)]

/-- A number from zero on is infinite or real. -/
theorem top_or_real {x : EReal} (hx : 0 ≤ x) : x = ⊤ ∨ ∃ r : ℝ, 0 ≤ r ∧ x = (r : EReal) := by
  induction x using EReal.rec with
  | bot => simp at hx
  | top => exact .inl rfl
  | coe x => exact .inr ⟨x, by exact_mod_cast hx, rfl⟩

/-- The square root keeps the order of the numbers from zero on. -/
theorem sqrt_lt {x y : EReal} (hx : 0 ≤ x) (hy : 0 ≤ y) : Ideal.sqrt x < Ideal.sqrt y ↔ x < y := by
  rcases top_or_real hx with rfl | ⟨x, hx', rfl⟩ <;> rcases top_or_real hy with rfl | ⟨y, hy', rfl⟩
  · simp
  · rw [sqrt_top, sqrt_coe hy']; simp
  · rw [sqrt_top, sqrt_coe hx']; simp [EReal.coe_lt_top]
  · rw [sqrt_coe hx', sqrt_coe hy', EReal.coe_lt_coe_iff, EReal.coe_lt_coe_iff]
    exact Real.sqrt_lt_sqrt_iff hx'

/-- Roots are ordered as their squares. -/
theorem sqrt_le {x y : EReal} (hx : 0 ≤ x) (hy : 0 ≤ y) : Ideal.sqrt x ≤ Ideal.sqrt y ↔ x ≤ y := by
  rw [← not_lt, sqrt_lt hy hx, not_lt]

/-- The root of a number from zero on is above `⊥`. -/
theorem bot_lt_sqrt {x : EReal} (hx : 0 ≤ x) : ⊥ < Ideal.sqrt x := by
  rcases top_or_real hx with rfl | ⟨x, hx', rfl⟩
  · simp [sqrt_top]
  · rw [sqrt_coe hx']; exact EReal.bot_lt_coe _

/-- A least value that is attained is the folded minimum. -/
theorem fold_min_eq {ι : Type*} (s : Finset ι) (f : ι → EReal) (i : ι) (hi : i ∈ s) (h : ∀ j ∈ s, f i ≤ f j) :
    Finset.fold min ⊤ f s = f i :=
  le_antisymm (Finset.fold_min_le _ |>.mpr (.inr ⟨i, hi, le_rfl⟩)) (Finset.le_fold_min _ |>.mpr ⟨le_top, h⟩)

/-- A greatest value that is attained is the folded maximum. -/
theorem fold_max_eq {ι : Type*} (s : Finset ι) (f : ι → EReal) (i : ι) (hi : i ∈ s) (h : ∀ j ∈ s, f j ≤ f i) :
    Finset.fold max ⊥ f s = f i :=
  le_antisymm (Finset.fold_max_le _ |>.mpr ⟨bot_le, h⟩) (Finset.le_fold_max _ |>.mpr (.inr ⟨i, hi, le_rfl⟩))

/-- A sum of products with one number is the product of the sum, where the terms are from zero on. -/
theorem sum_mul_of_nonneg {ι : Type*} (s : Finset ι) (f : ι → EReal) (h : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (h a (by simp))
      (Finset.sum_nonneg fun i hi => h i (by simp [hi])), ih fun i hi => h i (by simp [hi])]

/-- The word of minus infinity. -/
theorem bits_bot : Ideal.ofBits .f32 0xFF800000#32 = ⊥ := by decide

/-- The word of plus infinity. -/
theorem bits_top : Ideal.ofBits .f32 0x7F800000#32 = ⊤ := by decide

end Cert.Means

end
-- ==== Proof.PI.Words.lean ====
/-
  The words of pixels: their rows and columns, and the least index of a greatest value.
-/
module

public import proofs.«01_k».proof.Proof.PI.Vectors
public import proofs.«01_k».proof.Proof.RI.Spec
public import proofs.«01_k».proof.Proof.RI.Root

@[expose] public section

noncomputable section

namespace Cert.KernelIdeal.Hand

open Cert.KernelIdeal Cert.KernelIdeal.Gen
open Idealize.ShloMosaic Idealize.SL.Sem Pointwise Cert.Means

/-- A pixel's word. -/
abbrev pw (p : Fin 262144) : BitVec 32 := BitVec.ofNat 32 p.val

/-- A pixel's word as a natural number. -/
theorem pw_toNat (p : Fin 262144) : (pw p).toNat = p.val := by
  rw [BitVec.toNat_ofNat]; omega

/-- A pixel's word as an integer. -/
theorem pw_toInt (p : Fin 262144) : (pw p).toInt = p.val := by
  rw [BitVec.toInt_eq_toNat_of_lt (by rw [pw_toNat]; omega), pw_toNat]

/-- Different pixels have different words. -/
theorem pw_inj {p q : Fin 262144} : pw p = pw q ↔ p = q :=
  ⟨fun h => Fin.ext (by rw [← pw_toNat p, ← pw_toNat q, h]), fun h => by rw [h]⟩

/-- A pixel's word has no sign bit. -/
theorem pw_msb (p : Fin 262144) : (pw p).msb = false := by
  rw [BitVec.msb_eq_decide, pw_toNat, decide_eq_false_iff_not]; omega

/-- The word of a pixel's row and column. -/
theorem pix_eq (r c : Fin 512) : k0_pay132 (ix2 r c) = pw (px r c) := by
  unfold_payloads
  pointwise
  refine BitVec.eq_of_toNat_eq ?_
  show (BitVec.ofNat 32 r.val * 512#32 + BitVec.ofNat 32 c.val).toNat = _
  rw [pw_toNat, BitVec.toNat_add, BitVec.toNat_mul, BitVec.toNat_ofNat, BitVec.toNat_ofNat]
  simp only [px, BitVec.toNat_ofNat]
  omega

/-- The division of a pixel's word by 512 is an ordinary one. -/
theorem not_corner (p : Fin 262144) : ¬ IntOp.SDivCorner (pw p) 512#32 := by
  rintro (h | ⟨_, h⟩) <;> exact absurd h (by decide)

/-- The quotient by 512. -/
theorem div_word (p : Fin 262144) : Scalar.divsi (pw p) 512#32 = BitVec.ofNat 32 (p.val / 512) := by
  show (if IntOp.SDivCorner (pw p) 512#32 then _ else (pw p).sdiv 512#32) = _
  rw [if_neg (not_corner p), BitVec.sdiv_eq, pw_msb, show (512#32).msb = false by decide]
  refine BitVec.eq_of_toNat_eq ?_
  show ((pw p) / 512#32).toNat = _
  rw [BitVec.toNat_udiv, pw_toNat, BitVec.toNat_ofNat, BitVec.toNat_ofNat, show (512 % 2 ^ 32 : ℕ) = 512 by norm_num]
  omega

/-- The remainder by 512. -/
theorem rem_word (p : Fin 262144) : Scalar.remsi (pw p) 512#32 = BitVec.ofNat 32 (p.val % 512) := by
  show (if IntOp.SDivCorner (pw p) 512#32 then _ else (pw p).srem 512#32) = _
  rw [if_neg (not_corner p), BitVec.srem_eq, pw_msb, show (512#32).msb = false by decide]
  refine BitVec.eq_of_toNat_eq ?_
  show ((pw p) % 512#32).toNat = _
  rw [BitVec.toNat_umod, pw_toNat, BitVec.toNat_ofNat, BitVec.toNat_ofNat, show (512 % 2 ^ 32 : ℕ) = 512 by norm_num]
  omega

/-- A word below 2³¹ is not negative. -/
theorem slt_zero {w : BitVec 32} (h : w.toNat < 2147483648) : Scalar.cmpi .slt w 0#32 = 0#1 := by
  show BitVec.ofBool (w.slt 0#32) = 0#1
  have : w.slt 0#32 = false := by
    rw [BitVec.slt_eq_decide, decide_eq_false_iff_not, BitVec.toInt_eq_toNat_of_lt (by omega), BitVec.toInt_zero]
    omega
  rw [this]; rfl

/-- The row that the kernel's division computes. -/
theorem row_word (p : Fin 262144) : rowWord (pw p) = BitVec.ofNat 32 (p.val / 512) := by
  unfold rowWord
  rw [slt_zero (by rw [pw_toNat]; omega), div_word, rem_word]
  by_cases h : p.val = 0
  · have e : p.val % 512 = 0 := by omega
    rw [e]
    have : Scalar.cmpi .ne (BitVec.ofNat 32 0) 0#32 = 0#1 := by decide
    rw [this]
    have : ∀ w : BitVec 1, Scalar.andi w 0#1 = 0#1 := by decide
    rw [this]; rfl
  · have : Scalar.cmpi .sgt (pw p) 0#32 = 1#1 := by
      show BitVec.ofBool (BitVec.slt 0#32 (pw p)) = 1#1
      have : BitVec.slt 0#32 (pw p) = true := by
        rw [BitVec.slt_eq_decide, decide_eq_true_iff, pw_toInt, BitVec.toInt_zero]
        omega
      rw [this]; rfl
    rw [this]
    have : (Scalar.cmpi .ne (Scalar.subi (Scalar.extui (1#1) : BitVec 32) (Scalar.extui (0#1)))
      (Scalar.subi (Scalar.extui (Scalar.cmpi .sgt 512#32 0#32)) (Scalar.extui (Scalar.cmpi .slt 512#32 0#32)))) = 0#1 := by decide
    rw [this]
    have : ∀ w : BitVec 1, Scalar.andi 0#1 w = 0#1 := by decide
    rw [this]; rfl

/-- The column that the kernel's remainder computes. -/
theorem col_word (p : Fin 262144) : colWord (pw p) = BitVec.ofNat 32 (p.val % 512) := by
  have w : width = 512#32 := by decide
  unfold colWord
  rw [w, rem_word, slt_zero (by rw [BitVec.toNat_ofNat]; omega)]
  have : Scalar.xori (0#1) (Scalar.cmpi .slt 512#32 0#32) = 0#1 := by decide
  rw [this]
  have : ∀ w : BitVec 1, Scalar.andi 0#1 w = 0#1 := by decide
  rw [this]; rfl

/-- A pixel's row as a number. -/
theorem row_eq (p : Fin 262144) : rowOf (F := Ideal) (pw p) = coord p 0 := by
  unfold rowOf; rw [row_word]; rfl

/-- A pixel's column as a number. -/
theorem col_eq (p : Fin 262144) : colOf (F := Ideal) (pw p) = coord p 1 := by
  unfold colOf; rw [col_word]; rfl

/-! ## The least index of a greatest value -/

/-- The lesser of two words, if it is the first. -/
theorem minsi_left {w v : BitVec 32} (h : w.toInt ≤ v.toInt) : IntOp.minsi w v = w := by
  unfold IntOp.minsi
  split
  · rfl
  · rename_i h'
    have : ¬ w.toInt < v.toInt := by simpa [BitVec.slt_eq_decide] using h'
    exact BitVec.eq_of_toInt_eq (by omega)

/-- The lesser of two words is at least what both are at least. -/
theorem minsi_ge {w u v : BitVec 32} (hu : w.toInt ≤ u.toInt) (hv : w.toInt ≤ v.toInt) : w.toInt ≤ (IntOp.minsi u v).toInt := by
  unfold IntOp.minsi
  split
  · exact hu
  · exact hv

/-- A least word that is attained is the folded minimum. -/
theorem fold_minsi {ι : Type} [Fintype ι] [DecidableEq ι] (b : BitVec 32) (f : ι → BitVec 32) (i : ι)
    (hb : (f i).toInt ≤ b.toInt) (h : ∀ j, (f i).toInt ≤ (f j).toInt) : Finset.fold IntOp.minsi b f Finset.univ = f i := by
  have key : ∀ s : Finset ι, (f i).toInt ≤ (Finset.fold IntOp.minsi b f s).toInt := fun s => by
    induction s using Finset.induction_on with
    | empty => simpa using hb
    | insert a s ha ih => rw [Finset.fold_insert ha]; exact minsi_ge (h a) ih
  rw [← Finset.insert_erase (Finset.mem_univ i), Finset.fold_insert (Finset.notMem_erase i _)]
  exact minsi_left (key _)

/-- The least index of a greatest value is the first greatest position. -/
theorem first_word (s : FVec Ideal S512x512 .f32) (g : Fin 262144 → EReal) (hg : ∀ r c, s (ix2 r c) = g (px r c)) :
    firstMax k0_pay132 s = pw (arg g) := by
  have hp := pix_eq
  unfold firstMax
  generalize k0_pay132 = q at hp
  pointwise
  simp only [hg, hp]
  rw [bits_bot, fold_max_eq Finset.univ (fun x : Fin 512 × Fin 512 => g (px x.1 x.2)) (pxEquiv.symm (arg g)) (Finset.mem_univ _)
    (fun x _ => by
      show g (px x.1 x.2) ≤ g (pxEquiv (pxEquiv.symm (arg g)))
      rw [Equiv.apply_symm_apply]; exact (arg_spec g).le _)]
  have e : px (pxEquiv.symm (arg g)).1 (pxEquiv.symm (arg g)).2 = arg g := Equiv.apply_symm_apply pxEquiv (arg g)
  rw [e]
  have hf : (if g (px (pxEquiv.symm (arg g)).1 (pxEquiv.symm (arg g)).2) = g (arg g)
      then pw (px (pxEquiv.symm (arg g)).1 (pxEquiv.symm (arg g)).2) else 1073741824#32) = pw (arg g) := by rw [e, if_pos rfl]
  have hbig : ∀ p : Fin 262144, (pw p).toInt ≤ (1073741824#32 : BitVec 32).toInt := fun p => by
    rw [pw_toInt]
    have : (1073741824#32 : BitVec 32).toInt = 1073741824 := by decide
    omega
  refine (fold_minsi _ (fun x : Fin 512 × Fin 512 => if g (px x.1 x.2) = g (arg g) then pw (px x.1 x.2) else 1073741824#32)
    (pxEquiv.symm (arg g)) ?_ fun x => ?_).trans hf
  · show (if _ then _ else _ : BitVec 32).toInt ≤ _
    rw [hf]
    exact (hbig _).trans (by decide)
  · show (if _ then _ else _ : BitVec 32).toInt ≤ (if _ then _ else _ : BitVec 32).toInt
    rw [hf]
    split
    · rename_i h
      rw [pw_toInt, pw_toInt]
      rcases arg_spec g (px x.1 x.2) with h' | ⟨_, h'⟩
      · exact absurd h h'.ne
      · exact_mod_cast h'
    · exact hbig _

/-- A pixel struck out. -/
theorem strike_eq (s : FVec Ideal S512x512 .f32) (g : Fin 262144 → EReal) (hg : ∀ r c, s (ix2 r c) = g (px r c))
    (q : Fin 262144) (r c : Fin 512) : strike k0_pay132 s (pw q) (ix2 r c) = if px r c = q then ⊥ else g (px r c) := by
  have hp := pix_eq
  unfold strike
  generalize k0_pay132 = w at hp
  pointwise
  rw [hp, hg, bits_bot]
  by_cases h : px r c = q
  · simp [h, IntOp.cmpi, Scalar.select]
  · have : pw (px r c) ≠ pw q := fun e => h (pw_inj.mp e)
    simp [h, beq_false_of_ne this, IntOp.cmpi, Scalar.select]

/-- The scores left after `n` choices. -/
theorem left_eq (s : FVec Ideal S512x512 .f32) (g : Fin 262144 → EReal) (hg : ∀ r c, s (ix2 r c) = g (px r c)) (n : ℕ) :
    ∀ r c, left k0_pay132 s n (ix2 r c) = rem g n (px r c) := by
  induction n with
  | zero => exact hg
  | succ n ih =>
    intro r c
    show strike k0_pay132 (left k0_pay132 s n) (firstMax k0_pay132 (left k0_pay132 s n)) (ix2 r c) = _
    rw [first_word _ _ ih, strike_eq _ _ ih]
    rfl

/-- The `n`-th choice. -/
theorem pick_eq (s : FVec Ideal S512x512 .f32) (g : Fin 262144 → EReal) (hg : ∀ r c, s (ix2 r c) = g (px r c)) (n : ℕ) :
    pick k0_pay132 s n = pw (choice g n) := first_word _ _ (left_eq s g hg n)

end Cert.KernelIdeal.Hand

end
-- ==== Proof.PI.Rounds.lean ====
/-
  The kernel's update of one mask as the round on one mask.
-/
module

public import proofs.«01_k».proof.Proof.PI.Words

@[expose] public section

noncomputable section

namespace Cert.KernelIdeal.Hand

open Cert.KernelIdeal Cert.KernelIdeal.Gen
open Idealize.ShloMosaic Idealize.SL.Sem Pointwise Cert.Means

/-- The centroids as a table. -/
def tab (s : Cents Ideal) : Fin 5 → Fin 2 → EReal := fun k => ![s.1 k, s.2 k]

/-- The set pixels of a block's mask. -/
def fgk (x : Vec Ideal S1x512x512 .f32) (p : Fin 262144) : Bool :=
  decide (x (ix3 0 ⟨p.val / 512, by omega⟩ ⟨p.val % 512, by omega⟩) ≠ 0)

/-- A block's noise. -/
def uk (u : Vec Ideal S1x512x512 .f32) (p : Fin 262144) : EReal := u (ix3 0 ⟨p.val / 512, by omega⟩ ⟨p.val % 512, by omega⟩)

/-- The row of the pixel at a row and a column. -/
theorem px_row (r c : Fin 512) : (⟨(px r c).val / 512, by omega⟩ : Fin 512) = r := Fin.ext (by simp only [px]; omega)
/-- The column of the pixel at a row and a column. -/
theorem px_col (r c : Fin 512) : (⟨(px r c).val % 512, by omega⟩ : Fin 512) = c := Fin.ext (by simp only [px]; omega)

/-- Whether a pixel is set, by row and column. -/
theorem fgk_px (x : Vec Ideal S1x512x512 .f32) (r c : Fin 512) : fgk x (px r c) = decide (x (ix3 0 r c) ≠ 0) := by
  unfold fgk; rw [px_row, px_col]

/-- A pixel's noise, by row and column. -/
theorem uk_px (u : Vec Ideal S1x512x512 .f32) (r c : Fin 512) : uk u (px r c) = u (ix3 0 r c) := by
  unfold uk; rw [px_row, px_col]

/-- The squared distance. -/
theorem dist_eq (s : Cents Ideal) (k : Fin 5) (r c : Fin 512) :
    dist k0_pay133 k0_pay134 k0_pay135 (s.1 k) (s.2 k) (ix2 r c) = dst (tab s) (px r c) k := by
  unfold dist
  unfold_payloads
  pointwise
  unfold dst
  rw [coord_px_zero, coord_px_one]
  rfl

/-! ## The nearest centroid -/

/-- `v` is the least of `f` on the clusters up to `m`, and `w` is the word of the first cluster that attains it. -/
def Near (f : Fin 5 → EReal) (m : ℕ) (v : EReal) (w : BitVec 32) : Prop :=
  ∃ j : Fin 5, j.val ≤ m ∧ v = f j ∧ w = BitVec.ofNat 32 j.val ∧ ∀ i : Fin 5, i.val ≤ m → f j < f i ∨ (f j = f i ∧ j ≤ i)

/-- Of one cluster the nearest is the first. -/
theorem near_zero (f : Fin 5 → EReal) : Near f 0 (f 0) 0#32 :=
  ⟨0, le_rfl, rfl, rfl, fun i hi => .inr (by
    have : i = 0 := Fin.ext (Nat.le_zero.mp hi)
    subst this; exact ⟨rfl, le_rfl⟩)⟩

/-- One more cluster. -/
theorem Near.step {f : Fin 5 → EReal} {m : ℕ} {v : EReal} {w : BitVec 32} (h : Near f m v w) (k : Fin 5) (hk : k.val = m + 1) :
    Near f (m + 1) (if f k < v then f k else v) (if f k < v then BitVec.ofNat 32 k.val else w) := by
  obtain ⟨j, hj, rfl, rfl, h⟩ := h
  by_cases hl : f k < f j
  · rw [if_pos hl, if_pos hl]
    refine ⟨k, hk.le, rfl, rfl, fun i hi => ?_⟩
    by_cases hi' : i.val ≤ m
    · rcases h i hi' with h' | ⟨h', _⟩
      · exact .inl (hl.trans h')
      · exact .inl (h' ▸ hl)
    · have : i = k := Fin.ext (by omega)
      subst this; exact .inr ⟨rfl, le_rfl⟩
  · rw [if_neg hl, if_neg hl]
    refine ⟨j, by omega, rfl, rfl, fun i hi => ?_⟩
    by_cases hi' : i.val ≤ m
    · exact h i hi'
    · have : i = k := Fin.ext (by omega)
      subst this
      rcases (not_lt.mp hl).lt_or_eq with h' | h'
      · exact .inl h'
      · exact .inr ⟨h', Fin.le_def.mpr (by omega)⟩

/-- All five clusters. -/
theorem Near.four {f : Fin 5 → EReal} {v : EReal} {w : BitVec 32} (h : Near f 4 v w) :
    v = f (arg fun k => -f k) ∧ w = BitVec.ofNat 32 (arg fun k => -f k).val := by
  obtain ⟨j, _, rfl, rfl, h⟩ := h
  have : arg (fun k => -f k) = j := arg_eq fun i => by
    rcases h i (by omega) with h' | ⟨h', h''⟩
    · exact .inl (EReal.neg_lt_neg_iff.mpr h')
    · exact .inr ⟨by rw [h'], h''⟩
  rw [this]; exact ⟨rfl, rfl⟩

/-- One comparison, at a pixel. -/
theorem closer_near {f : Fin 5 → EReal} {m : ℕ} (b : FVec Ideal S512x512 .f32 × IVec S512x512 32) (d : FVec Ideal S512x512 .f32)
    (r c : Fin 512) (k : Fin 5) (hk : k.val = m + 1) (hd : d (ix2 r c) = f k) (h : Near f m (b.1 (ix2 r c)) (b.2 (ix2 r c))) :
    Near f (m + 1) ((closer b d (BitVec.ofNat 32 k.val)).1 (ix2 r c)) ((closer b d (BitVec.ofNat 32 k.val)).2 (ix2 r c)) := by
  have h' := h.step k hk
  rw [← hd] at h'
  have e1 : (closer b d (BitVec.ofNat 32 k.val)).1 (ix2 r c) = if d (ix2 r c) < b.1 (ix2 r c) then d (ix2 r c) else b.1 (ix2 r c) := by
    unfold closer; pointwise
  have e2 : (closer b d (BitVec.ofNat 32 k.val)).2 (ix2 r c)
      = if d (ix2 r c) < b.1 (ix2 r c) then BitVec.ofNat 32 k.val else b.2 (ix2 r c) := by
    unfold closer; pointwise
  rw [e1, e2]; exact h'

/-- The least distance and the label. -/
theorem nearest_eq (s : Cents Ideal) (r c : Fin 512) :
    (nearest k0_pay133 k0_pay134 k0_pay135 s).1 (ix2 r c) = dst (tab s) (px r c) (lab (tab s) (px r c))
      ∧ (nearest k0_pay133 k0_pay134 k0_pay135 s).2 (ix2 r c) = BitVec.ofNat 32 (lab (tab s) (px r c)).val := by
  refine Near.four (f := fun k => dst (tab s) (px r c) k) ?_
  unfold nearest
  refine closer_near _ _ r c 4 rfl (dist_eq s 4 r c) ?_
  refine closer_near _ _ r c 3 rfl (dist_eq s 3 r c) ?_
  refine closer_near _ _ r c 2 rfl (dist_eq s 2 r c) ?_
  refine closer_near _ _ r c 1 rfl (dist_eq s 1 r c) ?_
  show Near _ 0 (dist k0_pay133 k0_pay134 k0_pay135 (s.1 0) (s.2 0) (ix2 r c)) 0#32
  rw [dist_eq]
  exact near_zero _

/-! ## Counts and sums -/

/-- The words of the five clusters. -/
theorem word5_eq (k : Fin 5) : word5 k = BitVec.ofNat 32 k.val := by revert k; decide

/-- A member, as one or zero. -/
theorem member_eq (i k : Fin 5) (p : Bool) :
    Scalar.select (IntOp.cmpi .eq (BitVec.ofNat 32 i.val) (word5 k)) (if p = true then (1 : EReal) else 0) 0
      = if i = k ∧ p = true then 1 else 0 := by
  have : IntOp.cmpi .eq (BitVec.ofNat 32 i.val) (word5 k) = BitVec.ofBool (decide (i = k)) := by revert i k; decide
  rw [this]
  by_cases h : i = k <;> cases p <;> simp [h, Scalar.select]

/-- A membership is not negative. -/
theorem mem_nonneg (fg : Fin 262144 → Bool) (C : Fin 5 → Fin 2 → EReal) (p : Fin 262144) (k : Fin 5) : 0 ≤ mem fg C p k := by
  unfold mem; split_ifs
  · exact zero_le_one
  · exact le_rfl

section sums

variable {fg : Fin 262144 → Bool} {C : Fin 5 → Fin 2 → EReal} {fgf : FVec Ideal S512x512 .f32} {bk : IVec S512x512 32}
  (hf : ∀ r c, fgf (ix2 r c) = if fg (px r c) = true then (1 : EReal) else 0)
  (hb : ∀ r c, bk (ix2 r c) = BitVec.ofNat 32 (lab C (px r c)).val) (k : Fin 5)

include hf hb

/-- A selection by a cluster's word, at a pixel. -/
theorem select_eq (r c : Fin 512) :
    Scalar.select (IntOp.cmpi .eq (bk (ix2 r c)) (word5 k)) (fgf (ix2 r c)) (0 : EReal) = mem fg C (px r c) k := by
  rw [hf, hb, member_eq]; rfl

/-- The number of members. -/
theorem cnt_eq : cnt fgf bk k = size fg C k := by
  unfold cnt sumRow colTotals members
  unfold_payloads
  pointwise
  simp only [select_eq hf hb]
  unfold size
  rw [sum_px]
  simp only [Finset.univ_unique, Finset.sum_singleton]
  exact Finset.sum_comm

/-- The sum of the columns. -/
theorem sumX_eq : sumX fgf bk k = ∑ p, mem fg C p k * coord p 1 := by
  unfold sumX sumRow colTotals members
  unfold_payloads
  pointwise
  simp only [select_eq hf hb]
  rw [sum_px]
  simp only [Finset.univ_unique, Finset.sum_singleton, coord_px_one]
  refine Eq.trans (Finset.sum_congr rfl fun c _ => ?_) Finset.sum_comm
  exact sum_mul_of_nonneg _ _ (fun _ _ => mem_nonneg _ _ _ _) _

/-- The sum of the rows. -/
theorem sumY_eq : sumY fgf bk k = ∑ p, mem fg C p k * coord p 0 := by
  unfold sumY sumCol rowTotals members
  unfold_payloads
  pointwise
  simp only [select_eq hf hb]
  rw [sum_px]
  simp only [Finset.univ_unique, Finset.sum_singleton, coord_px_zero]
  refine Finset.sum_congr rfl fun c _ => ?_
  exact sum_mul_of_nonneg _ _ (fun _ _ => mem_nonneg _ _ _ _) _

end sums

/-! ## The update -/

/-- Some count at most zero. -/
theorem anyEmpty_eq (n : Fin 5 → EReal) (k : Fin 5) (h : ¬ 0 < n k) : anyEmpty (F := Ideal) n = 1#1 := by
  have e : anyEmpty (F := Ideal) n = Scalar.cmpi .ne (Scalar.extui (BitVec.ofBool (decide
      (min (min (min (n 0) (n 1)) (min (n 2) (n 3))) (n 4) ≤ 0))) : BitVec 32) 0#32 := by
    unfold anyEmpty; pointwise
  have hl : min (min (min (n 0) (n 1)) (min (n 2) (n 3))) (n 4) ≤ n k := by
    fin_cases k <;> simp
  rw [e, decide_eq_true (hl.trans (not_lt.mp h))]
  decide

/-- A new coordinate. -/
theorem mean_eq (n s f : EReal) : mean (F := Ideal) n s f = if 0 < n then Ideal.div s (max n 1) else f := by
  unfold mean; pointwise

/-- The kernel's set pixels. -/
theorem fg_eq (x : Vec Ideal S1x512x512 .f32) (r c : Fin 512) : fgOf x (ix2 r c) = BitVec.ofBool (fgk x (px r c)) := by
  rw [fgk_px]
  unfold fgOf
  unfold_payloads
  pointwise

/-- The kernel's set pixels as numbers. -/
theorem fgf_eq (x : Vec Ideal S1x512x512 .f32) (r c : Fin 512) :
    fgfOf x (ix2 r c) = if fgk x (px r c) = true then (1 : EReal) else 0 := by
  rw [fgk_px]
  unfold fgfOf
  unfold_payloads
  pointwise
  simp

/-- The farthest pixel. -/
theorem farPixel_eq (x : Vec Ideal S1x512x512 .f32) (s : Cents Ideal) :
    farPixel k0_pay132 (fgOf x) (nearest k0_pay133 k0_pay134 k0_pay135 s).1 = pw (far (fgk x) (tab s)) := by
  refine first_word _ _ fun r c => ?_
  have h := (nearest_eq s r c).1
  have h' := fg_eq x r c
  generalize (nearest k0_pay133 k0_pay134 k0_pay135 s).1 = d at h
  generalize fgOf x = w at h'
  pointwise
  rw [h, h', bits_bot]
  cases fgk x (px r c) <;> rfl

/-- The update's two coordinates. -/
theorem update_tab (p : IVec S512x512 32) (sq yb xb : FVec Ideal S512x512 .f32) (fg : IVec S512x512 1) (fgf : FVec Ideal S512x512 .f32)
    (s : Cents Ideal) (b : FVec Ideal S512x512 .f32 × IVec S512x512 32) (hb : nearest sq yb xb s = b) (k : Fin 5) :
    tab (update p sq yb xb fg fgf s) k = ![mean (F := Ideal) (cnt fgf b.2 k) (sumY fgf b.2 k) (fallback p fg b.1 (cnt fgf b.2)).1,
      mean (F := Ideal) (cnt fgf b.2 k) (sumX fgf b.2 k) (fallback p fg b.1 (cnt fgf b.2)).2] := by
  subst hb
  unfold tab update
  with_reducible rfl

/-- One update is one round. -/
theorem upd_eq (x : Vec Ideal S1x512x512 .f32) (s : Cents Ideal) : tab (upd x s) = next (fgk x) (tab s) := by
  have hb : ∀ r c, (nearest k0_pay133 k0_pay134 k0_pay135 s).2 (ix2 r c) = BitVec.ofNat 32 (lab (tab s) (px r c)).val :=
    fun r c => (nearest_eq s r c).2
  have hf := farPixel_eq x s
  unfold upd
  obtain ⟨b, hbe⟩ : ∃ b, nearest (F := Ideal) k0_pay133 k0_pay134 k0_pay135 s = b := ⟨_, rfl⟩
  funext k
  rw [update_tab _ _ _ _ _ _ _ b hbe k]
  rw [hbe] at hb hf
  rw [cnt_eq (fgf_eq x) hb k, sumY_eq (fgf_eq x) hb k, sumX_eq (fgf_eq x) hb k, mean_eq, mean_eq]
  have key : ¬ 0 < size (fgk x) (tab s) k → fallback (F := Ideal) k0_pay132 (fgOf x) b.1 (cnt (fgfOf x) b.2)
      = (coord (far (fgk x) (tab s)) 0, coord (far (fgk x) (tab s)) 1) := fun h => by
    rw [← cnt_eq (fgf_eq x) hb k] at h
    unfold fallback
    rw [anyEmpty_eq _ k h, if_pos rfl, hf, row_eq, col_eq]
  funext i
  unfold next
  revert i
  refine Fin.forall_fin_two.mpr ⟨?_, ?_⟩
  · rw [Matrix.cons_val_zero]
    by_cases h : 0 < size (fgk x) (tab s) k
    · rw [if_pos h, if_pos h]
    · rw [if_neg h, if_neg h, key h]
  · rw [Matrix.cons_val_one]
    by_cases h : 0 < size (fgk x) (tab s) k
    · rw [if_pos h, Matrix.cons_val_zero, if_pos h]
    · rw [if_neg h, Matrix.cons_val_zero, if_neg h, key h]

/-- The scores. -/
theorem scores_eq (x u : Vec Ideal S1x512x512 .f32) (r c : Fin 512) : scores x u (ix2 r c) = scoreOf (uk u) (fgk x) (px r c) := by
  have h := fg_eq x r c
  unfold scores scoreOf
  generalize fgOf x = w at h
  pointwise
  rw [h, uk_px]
  cases fgk x (px r c) <;> rfl

/-- The centroids after `n` updates. -/
theorem cents_eq (x u : Vec Ideal S1x512x512 .f32) (n : ℕ) :
    tab (cents x u n) = Cert.Means.after (fgk x) (scoreOf (uk u) (fgk x)) n := by
  induction n with
  | zero =>
    funext k i
    have h := pick_eq _ _ (scores_eq x u) k.val
    show (![rowOf (F := Ideal) (pick k0_pay132 (scores x u) k.val), colOf (F := Ideal) (pick k0_pay132 (scores x u) k.val)] : Fin 2 → EReal) i
      = coord (choice (scoreOf (uk u) (fgk x)) k.val) i
    rw [h, row_eq, col_eq]
    match i with
    | 0 => rfl
    | 1 => rfl
  | succ n ih =>
    show tab (upd x (cents x u n)) = _
    rw [upd_eq, ih]; rfl

/-- Whether at most five pixels are set. -/
theorem few_eq (x : Vec Ideal S1x512x512 .f32) : few x = BitVec.ofBool (decide
    ((∑ p, if fgk x p = true then (1 : EReal) else 0) ≤ Ideal.ofBits .f32 0x40A00000#32)) := by
  have h := fgf_eq x
  unfold few sumPlane
  generalize fgfOf x = w at h
  pointwise
  simp only [h]
  rw [sum_px]

/-- A member's mark. -/
theorem kept_eq (i k : Fin 5) (p : Bool) :
    Scalar.select (IntOp.andi (BitVec.ofBool p) (IntOp.cmpi .eq (BitVec.ofNat 32 i.val) (word5 k))) (1 : EReal) 0
      = if i = k ∧ p = true then 1 else 0 := by
  have : IntOp.cmpi .eq (BitVec.ofNat 32 i.val) (word5 k) = BitVec.ofBool (decide (i = k)) := by revert i k; decide
  rw [this]
  by_cases h : i = k <;> cases p <;> simp [h, Scalar.select, IntOp.andi]

/-- A cluster's mask. -/
theorem plane_eq (x u : Vec Ideal S1x512x512 .f32) (k : Fin 5) (r c : Fin 512) :
    plane x u k (ix4 0 0 r c) = result (fgk x) (uk u) (x (ix3 0 r c)) (px r c) k := by
  have hl : label x u (ix2 r c) = BitVec.ofNat 32 (lab (Cert.Means.after (fgk x) (scoreOf (uk u) (fgk x)) 9) (px r c)).val := by
    rw [← cents_eq]; exact (nearest_eq _ r c).2
  have h := fg_eq x r c
  have hw := few_eq x
  unfold plane
  generalize fgOf x = w at h
  generalize few x = v at hw
  generalize label x u = l at hl
  pointwise
  rw [h, hl, hw]
  unfold result
  rw [kept_eq]
  have hk : (![shapeCast S512x512 x shapeCasts_S1x512x512_S512x512, broadcast S512x512 (0 : EReal), broadcast S512x512 0,
      broadcast S512x512 0, broadcast S512x512 0] : Fin 5 → S512x512.Idx → EReal) k (ix2 r c) = if k = 0 then x (ix3 0 r c) else 0 := by
    by_cases h0 : k = 0
    · subst h0
      rw [if_pos rfl, Matrix.cons_val_zero]
      pointwise
    · rw [if_neg h0]
      fin_cases k
      · exact absurd rfl h0
      all_goals rfl
  rw [← hk]
  by_cases hs : (∑ p, if fgk x p = true then (1 : EReal) else 0) ≤ Ideal.ofBits .f32 0x40A00000#32
  · rw [if_pos hs, decide_eq_true hs]; rfl
  · rw [if_neg hs, decide_eq_false hs]; rfl

end Cert.KernelIdeal.Hand

end
-- ==== Proof.PI.Block.lean ====
/-
  The block of results of a grid point, at an index.
-/
module

public import proofs.«01_k».proof.Proof.PI.Run
public import proofs.«01_k».proof.Proof.PI.Rounds

@[expose] public section

noncomputable section

namespace Cert.KernelIdeal.Hand

open Cert.KernelIdeal Cert.KernelIdeal.Gen
open Idealize.ShloMosaic Idealize.SL.Sem Pointwise Cert.Means

/-- Member `j` of a block of two. -/
def member (x : Vec Ideal S2x512x512 .f32) (j : Fin 2) : Vec Ideal S1x512x512 .f32 := fun i => x (ix3 j (i 1) (i 2))

/-- The block of results in closed form. -/
def closed (x u : Vec Ideal S2x512x512 .f32) : Vec Ideal S2x5x512x512 .f32 := fun y =>
  result (fgk (member x (y 0))) (uk (member u (y 0))) (x (ix3 (y 0) (y 2) (y 3))) (px (y 2) (y 3)) (y 1)

/-- The first piece of a block is its first member. -/
theorem ld_zero (x : Vec Ideal S2x512x512 .f32) : View.ld (Val := Elt Ideal) x r0 = member x 0 := by
  funext i
  refine congrArg x (funext fun a => Fin.ext ?_)
  have h0 : (i 0).val < 1 := (i 0).isLt
  match a with
  | ⟨0, _⟩ => show 0 + 1 * (i 0).val = 0; omega
  | ⟨1, _⟩ => show 0 + 1 * (i 1).val = (i 1).val; omega
  | ⟨2, _⟩ => show 0 + 1 * (i 2).val = (i 2).val; omega

/-- The second piece of a block is its second member. -/
theorem ld_one (x : Vec Ideal S2x512x512 .f32) : View.ld (Val := Elt Ideal) x r1 = member x 1 := by
  funext i
  refine congrArg x (funext fun a => Fin.ext ?_)
  have h0 : (i 0).val < 1 := (i 0).isLt
  match a with
  | ⟨0, _⟩ => show 1 + 1 * (i 0).val = 1; omega
  | ⟨1, _⟩ => show 0 + 1 * (i 1).val = (i 1).val; omega
  | ⟨2, _⟩ => show 0 + 1 * (i 2).val = (i 2).val; omega

/-- One store's plane is the closed form on its rectangle. -/
theorem piece (x u : Vec Ideal S2x512x512 .f32) (j : Fin 2) (k : Fin 5)
    (h : ∀ a, (![j.val, k.val, 0, 0] : Fin 4 → ℕ) a + S1x1x512x512.size a ≤ S2x5x512x512.size a) (z : S1x1x512x512.Idx) :
    plane (member x j) (member u j) k z
      = closed x u ((Rect.unit (s := S2x5x512x512) ![j.val, k.val, 0, 0] S1x1x512x512.size h).emb z) := by
  have h0 : (z 0).val < 1 := (z 0).isLt
  have h1 : (z 1).val < 1 := (z 1).isLt
  have e : (Rect.unit (s := S2x5x512x512) ![j.val, k.val, 0, 0] S1x1x512x512.size h).emb z = ix4 j k (z 2) (z 3) := by
    funext a; refine Fin.ext ?_
    match a with
    | ⟨0, _⟩ => show j.val + 1 * (z 0).val = j.val; omega
    | ⟨1, _⟩ => show k.val + 1 * (z 1).val = k.val; omega
    | ⟨2, _⟩ => show 0 + 1 * (z 2).val = (z 2).val; omega
    | ⟨3, _⟩ => show 0 + 1 * (z 3).val = (z 3).val; omega
  have ez : z = ix4 0 0 (z 2) (z 3) := by
    funext a; refine Fin.ext ?_
    match a with
    | ⟨0, _⟩ => show (z 0).val = 0; omega
    | ⟨1, _⟩ => show (z 1).val = 0; omega
    | ⟨2, _⟩ => rfl
    | ⟨3, _⟩ => rfl
  rw [e]
  refine (congrArg _ ez).trans ?_
  exact plane_eq (member x j) (member u j) k (z 2) (z 3)

/-- The block of results. -/
theorem block_eq (x u : Vec Ideal S2x512x512 .f32) : block x u = closed x u := by
  funext y
  unfold block
  rw [ld_zero, ld_one, ld_zero, ld_one]
  refine View.canon_apply_of_pieces (closed x u) _ ?_ y (cover _ _ _ _ y)
  intro p hp
  simp only [List.mem_cons, List.not_mem_nil, or_false] at hp
  rcases hp with rfl | rfl | rfl | rfl | rfl | rfl | rfl | rfl | rfl | rfl
  · exact piece x u 1 4 inb_S2x5x512x512_S1x1x512x512_1_4_0_0
  · exact piece x u 1 3 inb_S2x5x512x512_S1x1x512x512_1_3_0_0
  · exact piece x u 1 2 inb_S2x5x512x512_S1x1x512x512_1_2_0_0
  · exact piece x u 1 1 inb_S2x5x512x512_S1x1x512x512_1_1_0_0
  · exact piece x u 1 0 inb_S2x5x512x512_S1x1x512x512_1_0_0_0
  · exact piece x u 0 4 inb_S2x5x512x512_S1x1x512x512_0_4_0_0
  · exact piece x u 0 3 inb_S2x5x512x512_S1x1x512x512_0_3_0_0
  · exact piece x u 0 2 inb_S2x5x512x512_S1x1x512x512_0_2_0_0
  · exact piece x u 0 1 inb_S2x5x512x512_S1x1x512x512_0_1_0_0
  · exact piece x u 0 0 inb_S2x5x512x512_S1x1x512x512_0_0_0_0

end Cert.KernelIdeal.Hand

end
-- ==== Proof.PI.Entry.lean ====
/-
  What the kernel's host operations leave in the two arrays that its pipeline reads: the masks, and the reference's noise.
-/
module

public import proofs.«01_k».proof.Proof.Gen.KernelIdeal.Frame
public import proofs.«01_k».proof.Proof.Gen.ReferenceIdeal.Step
public import Idealize.ShloMosaic.Lib.StableHlo.RunRead

@[expose] public section

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (c : Dev nD)

set_option maxRecDepth 65536 in
set_option maxHeartbeats 40000000 in
/-- The masks: the argument, reshaped. -/
theorem entry_masks : V m c main_call0_v1
    = shapeCast S4x512x512 (shapeCast S2x2x512x512 (m ((c : Thread nD τ).loc main_arg0)) shapeCasts_S2x1x2x512x512_S2x2x512x512)
        shapeCasts_S2x2x512x512_S4x512x512 := by
  show after hostOps0 (fun b => m (c, b)) (Proc.devRef .tc main_call0_v1) = _
  after_reads_simp [TRef.ofBuf_toBuf]
  rfl

set_option maxRecDepth 65536 in
set_option maxHeartbeats 40000000 in
/-- The keys' words. -/
theorem entry_keys (W : Valuation τ sig (Elt F)) :
    (concatenate (α := Elt F .i32) S4x2 1 [⟨S4x1, (TRef.of main_call0_call0_v12 rfl : TRef sig ⟨S4x1, .i32⟩).ofBuf (upto hostOps0 W 249 (Proc.devRef .tc main_call0_call0_v12))⟩,
        ⟨S4x1, (TRef.of main_call0_call0_v13 rfl : TRef sig ⟨S4x1, .i32⟩).ofBuf (upto hostOps0 W 249 (Proc.devRef .tc main_call0_call0_v13))⟩]
      concatenates_S4x1_S4x1_S4x2_d1) = Cert.ReferenceIdeal.Step.K_main_v21 (F := F) := by
  have p : (TRef.of main_call0_call0_v12 rfl : TRef sig ⟨S4x1, .i32⟩).ofBuf (upto hostOps0 W 249 (Proc.devRef .tc main_call0_call0_v12))
      = Cert.ReferenceIdeal.Step.K_main_v19 (F := F) := by
    after_reads_simp [TRef.ofBuf_toBuf]; rfl
  have q : (TRef.of main_call0_call0_v13 rfl : TRef sig ⟨S4x1, .i32⟩).ofBuf (upto hostOps0 W 249 (Proc.devRef .tc main_call0_call0_v13))
      = Cert.ReferenceIdeal.Step.K_main_v20 (F := F) := by
    after_reads_simp [TRef.ofBuf_toBuf]; rfl
  rw [p, q]; rfl

/-- The operations after the keys. -/
def later : List (HloOp τ sig (Elt F)) := hostOps0.drop 250

set_option maxRecDepth 65536 in
set_option maxHeartbeats 4000000 in
/-- The noise, from the keys. -/
theorem noise_later (W : Valuation τ sig (Elt F))
    (h : W (Proc.devRef .tc main_call0_v9) = Cert.ReferenceIdeal.Step.K_main_v21 (F := F)) :
    after later W (Proc.devRef .tc main_call0_v11)
      = shapeCast S4x512x512 (Cert.ReferenceIdeal.Step.K_main_v57 (F := F)) shapeCasts_S4x262144_S4x512x512 := by
  after_reads_simp [TRef.ofBuf_toBuf]
  simp only [h]
  rfl

set_option maxRecDepth 65536 in
set_option maxHeartbeats 4000000 in
/-- What the operations up to the keys leave in the keys' array. -/
theorem keys_read (W : Valuation τ sig (Elt F)) :
    after (hostOps0.take 250) W (Proc.devRef .tc main_call0_v9) = Cert.ReferenceIdeal.Step.K_main_v21 (F := F) := by
  after_reads_simp [TRef.ofBuf_toBuf]
  exact entry_keys W

/-- The noise: the reference's. -/
theorem entry_noise : V m c main_call0_v11
    = shapeCast S4x512x512 (Cert.ReferenceIdeal.Step.K_main_v57 (F := F)) shapeCasts_S4x262144_S4x512x512 := by
  have e : (hostOps0 (F := F)) = hostOps0.take 250 ++ later := (List.take_append_drop 250 hostOps0).symm
  show after hostOps0 (fun b => m (c, b)) (Proc.devRef .tc main_call0_v11) = _
  rw [e, after_append]
  exact noise_later _ (keys_read _)

end Cert.KernelIdeal.Hand

end
-- ==== Proof.RI.Values.lean ====
/-
  The reference's loop body read at an index: one trip on one mask is one round of Lloyd's.
-/
module

public import proofs.«01_k».proof.Proof.RI.Spec
public import proofs.«01_k».proof.Proof.Gen.ReferenceIdeal.Step

@[expose] public section

noncomputable section

namespace Cert.ReferenceIdeal.Hand

open Cert.ReferenceIdeal Cert.ReferenceIdeal.Gen Cert.ReferenceIdeal.Step Cert.Means
open Idealize.ShloMosaic Idealize.SL.Sem Pointwise

/-! ## Top-k and gather at an index -/

/-- The strict comparison as a decided proposition. -/
theorem gt_eq (a b : EReal) : (FloatOps.cmpfTotal (F := Ideal) (φ := .f32) .gt a b == 1#1) = decide (b < a) := by
  have e : FloatOps.cmpfTotal (F := Ideal) (φ := .f32) .gt a b = BitVec.ofBool (decide (b < a)) := rfl
  rw [e]; by_cases h : b < a <;> simp [h]

/-- The positions of the greatest elements along an axis: those of the stable sort, greatest first. -/
theorem topK_snd {s t : Shape} (d : ℕ) (hd : d < s.rank) (x : FVec Ideal s .f32) (h : s.Slices (fun _ => 0) t) (j : t.Idx)
    (i : s.Idx) (hi : ∀ a : Fin s.rank, (i a).val = (j (a.cast h.1.symm)).val) (f : Fin (s.size ⟨d, hd⟩) → EReal)
    (hf : ∀ k, x (i.along ⟨d, hd⟩ k) = f k) :
    (Host.topK t d (FloatOps.cmpfTotal (F := Ideal) (φ := .f32) .gt) x h).2 j
      = BitVec.ofNat 32 (sortedFrom (fun k k' => decide (f k' < f k)) (i ⟨d, hd⟩)).val := by
  unfold Host.topK Host.sort2 extractStridedSlice
  simp only [dif_pos hd]
  have e : (fun a : Fin s.rank => (⟨0 + (j (a.cast h.1.symm)).val,
      Nat.lt_of_lt_of_le (Nat.add_lt_add_left (j _).isLt _) (h.2 a)⟩ : Fin (s.size a))) = i :=
    funext fun a => Fin.ext (by simp [hi a])
  rw [e]
  simp only [gt_eq]
  show BitVec.ofNat 32 ((i.along ⟨d, hd⟩ _) ⟨d, hd⟩).val = _
  have e1 : ∀ k, (i.along ⟨d, hd⟩ k) ⟨d, hd⟩ = k := fun k => by unfold Shape.Idx.along; rw [Function.update_self]
  rw [e1]
  have e2 : (fun k k' : Fin (s.size ⟨d, hd⟩) => decide (x (i.along ⟨d, hd⟩ k') < x (i.along ⟨d, hd⟩ k)))
      = fun k k' => decide (f k' < f k) := by funext k k'; rw [hf, hf]
  rw [← e2]
  have e3 : (⟨0 + (j (Fin.cast h.1.symm ⟨d, hd⟩)).val,
      Nat.lt_of_lt_of_le (Nat.add_lt_add_left (j _).isLt _) (h.2 ⟨d, hd⟩)⟩ : Fin (s.size ⟨d, hd⟩)) = i ⟨d, hd⟩ :=
    Fin.ext (by simp [hi ⟨d, hd⟩])
  rw [← e3]

/-- The first greatest of five, per mask and pixel. -/
theorem topK_cluster (x : FVec Ideal S4x262144x5 .f32) (h) (b : Fin 4) (p : Fin 262144) :
    (Host.topK S4x262144x1 2 (FloatOps.cmpfTotal (F := Ideal) (φ := .f32) .gt) x h).2 (ix3 b p 0)
      = BitVec.ofNat 32 (arg fun k : Fin 5 => x (ix3 b p k)).val := by
  have hd : 2 < S4x262144x5.rank := by decide
  have := topK_snd (s := S4x262144x5) 2 hd x h (ix3 b p 0) (ix3 b p 0)
    (by intro a; match a with | ⟨0, _⟩ => rfl | ⟨1, _⟩ => rfl | ⟨2, _⟩ => rfl) (fun k : Fin 5 => x (ix3 b p k))
    (fun k => congrArg x (funext fun a => by match a with | ⟨0, _⟩ => rfl | ⟨1, _⟩ => rfl | ⟨2, _⟩ => rfl))
  refine this.trans ?_
  exact congrArg (fun k : Fin 5 => BitVec.ofNat 32 k.val) (sorted_zero (fun k : Fin 5 => x (ix3 b p k)) 0 rfl)

/-- The first greatest pixel of a mask. -/
theorem topK_pixel (x : FVec Ideal S4x262144 .f32) (h) (b : Fin 4) :
    (Host.topK S4x1 1 (FloatOps.cmpfTotal (F := Ideal) (φ := .f32) .gt) x h).2 (ix2 b 0)
      = BitVec.ofNat 32 (arg fun p : Fin 262144 => x (ix2 b p)).val := by
  have hd : 1 < S4x262144.rank := by decide
  have := topK_snd (s := S4x262144) 1 hd x h (ix2 b 0) (ix2 b ⟨0, by omega⟩)
    (by intro a; match a with | ⟨0, _⟩ => rfl | ⟨1, _⟩ => rfl) (fun k : Fin 262144 => x (ix2 b k))
    (fun k => congrArg x (funext fun a => by match a with | ⟨0, _⟩ => rfl | ⟨1, _⟩ => rfl))
  refine this.trans ?_
  exact congrArg (fun k : Fin 262144 => BitVec.ofNat 32 k.val)
    (sorted_zero (fun k : Fin 262144 => x (ix2 b k)) ⟨0, by omega⟩ rfl)

/-- The five greatest pixels of a mask. -/
theorem topK_five (x : FVec Ideal S4x262144 .f32) (h) (b : Fin 4) (hx : ∀ p, x (ix2 b p) ≠ ⊥) (k : Fin 5) :
    (Host.topK S4x5 1 (FloatOps.cmpfTotal (F := Ideal) (φ := .f32) .gt) x h).2 (ix2 b k)
      = BitVec.ofNat 32 (choice (fun p : Fin 262144 => x (ix2 b p)) k.val).val := by
  have hk : k.val < 262144 := lt_trans k.isLt (by norm_num)
  have hd : 1 < S4x262144.rank := by decide
  have := topK_snd (s := S4x262144) 1 hd x h (ix2 b k) (ix2 b ⟨k.val, hk⟩)
    (by intro a; match a with | ⟨0, _⟩ => rfl | ⟨1, _⟩ => rfl) (fun k : Fin 262144 => x (ix2 b k))
    (fun k => congrArg x (funext fun a => by match a with | ⟨0, _⟩ => rfl | ⟨1, _⟩ => rfl))
  refine this.trans ?_
  exact congrArg (fun k : Fin 262144 => BitVec.ofNat 32 k.val)
    (sorted_choice (fun k : Fin 262144 => x (ix2 b k)) hx k.val hk)

/-- The gather's dimension numbers, for `n` positions per mask. -/
def rowsDims (n : ℕ) (wf : GatherDims.WF S262144x2 ⟨3, ![4, n, 1]⟩ ⟨3, ![4, n, 2]⟩ [2] [0] [] [0] [] 2 ![1, 2]) :
    GatherDims S262144x2 ⟨3, ![4, n, 1]⟩ ⟨3, ![4, n, 2]⟩ where
  offsetDims := [2]
  collapsedSliceDims := [0]
  operandBatchingDims := []
  startIndicesBatchingDims := []
  startIndexMap := [0]
  indexVectorDim := 2
  sliceSizes := ![1, 2]
  wf := wf

/-- The gather takes the row that its position names. -/
theorem gather_rows {n : ℕ} (wf) (x : FVec Ideal S262144x2 .f32) (idx : IVec ⟨3, ![4, n, 1]⟩ 32) (b : Fin 4) (k : Fin n) (i : Fin 2)
    (p : Fin 262144) (hp : idx (ix3 b k 0) = BitVec.ofNat 32 p.val) :
    Host.gather (rowsDims n wf) x idx (ix3 b k i) = x (ix2 p i) := by
  unfold Host.gather
  congr 1
  funext a
  refine Fin.ext ?_
  show (rowsDims n wf).start (ix3 b k i) idx a + (rowsDims n wf).batchCoord (ix3 b k i) a
      + (rowsDims n wf).offCoord (ix3 b k i) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims n wf).startIndexMap from List.mem_singleton.mpr rfl)]
    have hsi : (rowsDims n wf).siIdx (ix3 b k i) ⟨List.idxOf (⟨0, by decide⟩ : Fin 2) (rowsDims n wf).startIndexMap,
        List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    rw [hsi, hp]
    have : (BitVec.ofNat 32 p.val).toInt.toNat = p.val := by
      rw [BitVec.toInt_eq_toNat_of_lt (by rw [BitVec.toNat_ofNat]; omega), BitVec.toNat_ofNat]; omega
    rw [this]
    show min p.val (262144 - 1) = p.val
    omega
  | ⟨1, _⟩ =>
    have : (rowsDims n wf).start (ix3 b k i) idx ⟨1, by decide⟩ = 0 := by
      unfold GatherDims.start
      rw [dif_neg (show (⟨1, by decide⟩ : Fin 2) ∉ (rowsDims n wf).startIndexMap from fun hh => by cases List.mem_singleton.mp hh)]
    rw [this]
    simp only [Nat.zero_add]
    unfold GatherDims.offCoord
    rw [dif_pos ((GatherDims.mem_sKept _ _).mpr ⟨(fun hh => by cases (List.mem_singleton.mp hh : (⟨1, _⟩ : Fin 2) = 0) : (⟨1, by decide⟩ : Fin 2) ∉ [(0 : Fin 2)]), List.not_mem_nil⟩)]
    rfl

/-- A position below the number of pixels is not negative: the wrapped position is the position itself. -/
theorem wrap (p : Fin 262144) : Scalar.select (IntOp.cmpi .slt (BitVec.ofNat 32 p.val) 0#32)
    (IntOp.addi (BitVec.ofNat 32 p.val) 262144#32) (BitVec.ofNat 32 p.val) = BitVec.ofNat 32 p.val := by
  have : (BitVec.ofNat 32 p.val).slt 0#32 = false := by
    rw [BitVec.slt_eq_decide, decide_eq_false_iff_not, BitVec.toInt_eq_toNat_of_lt (by rw [BitVec.toNat_ofNat]; omega)]
    rw [not_lt]; simp only [BitVec.toInt_zero]; exact Int.natCast_nonneg _
  show Scalar.select (BitVec.ofBool ((BitVec.ofNat 32 p.val).slt 0#32)) _ _ = _
  rw [this]; rfl

end Cert.ReferenceIdeal.Hand

end
-- ==== Proof.RI.Rounds.lean ====
/-
  The reference's round, and its state after `n` rounds, as the rounds on one mask.
-/
module

public import proofs.«01_k».proof.Proof.RI.Values
public import proofs.«01_k».proof.Proof.RI.Root

@[expose] public section

noncomputable section

namespace Cert.ReferenceIdeal.Hand

open Cert.ReferenceIdeal Cert.ReferenceIdeal.Gen Cert.ReferenceIdeal.Step Cert.Means
open Idealize.ShloMosaic Idealize.SL.Sem Pointwise

/-- The centroids of mask `b` in a state. -/
def cen (s : State Ideal) (b : Fin 4) : Fin 5 → Fin 2 → EReal := fun k i => s.main_v89_5 (ix3 b k i)

/-- The set pixels of mask `b` in a state. -/
def fgs (s : State Ideal) (b : Fin 4) (p : Fin 262144) : Bool := decide (s.main_v89_2 (ix2 b p) = 1#1)

/-- The coordinates' table. -/
theorem coord_eq (p : Fin 262144) (i : Fin 2) : K_main_v69 (F := Ideal) (ix2 p i) = coord p i := by
  unfold K_main_v69 K_main_v68 K_main_v67 K_main_v66 K_main_v65 K_main_v64 K_main_v63 K_main_v62 K_main_v61 K_main_v60 coord
  pointwise
  split_ifs <;> rfl

/-- The table of squared distances. -/
theorem dst_eq (s : State Ideal) (b : Fin 4) (p : Fin 262144) (k : Fin 5) : b20 0 s (ix3 b p k) = dst (cen s b) p k := by
  pointwise [b20,b19,b18,b17,b16,b15,b14,b13,b12,b11,b10,b9,b8,b7,b6,b5,b4,b3,b2,K_main_v78,K_main_v77,K_main_cst_12]
  simp only [coord_eq, Fin.sum_univ_two]
  rfl

/-- The label of a pixel. -/
theorem label_eq (s : State Ideal) (b : Fin 4) (p : Fin 262144) :
    b25 0 s (ix2 b p) = BitVec.ofNat 32 (lab (cen s b) p).val := by
  have e : b25 0 s (ix2 b p) = (Host.topK S4x262144x1 2 (FloatOps.cmpfTotal (F := Ideal) (φ := .f32) .gt) (b22 0 s)
      sliceFits_S4x262144x5_S4x262144x1).2 (ix3 b p 0) := by
    pointwise [b25, b24]
  rw [e, topK_cluster]
  refine congrArg (fun k : Fin 5 => BitVec.ofNat 32 k.val) (arg_congr fun i j => ?_)
  have h : ∀ k, b22 0 s (ix3 b p k) = -Ideal.sqrt (dst (cen s b) p k) := fun k => by
    pointwise [b22, b21]
    rw [dst_eq]
  rw [h, h, EReal.neg_lt_neg_iff, EReal.neg_lt_neg_iff]
  exact sqrt_lt (dst_nonneg _ _ _) (dst_nonneg _ _ _)

/-- Words of clusters are equal exactly for equal clusters. -/
theorem word_eq (i k : Fin 5) : IntOp.cmpi .eq (BitVec.ofNat 32 i.val) (BitVec.ofNat 32 k.val) = BitVec.ofBool (decide (i = k)) := by
  revert i k; decide

/-- One or zero, as a number. -/
theorem uitofp_and (p : Bool) (w : BitVec 1) : FloatOps.uitofp (F := Ideal) .f32 (IntOp.andi (BitVec.ofBool p) w)
    = if p = true ∧ w = 1#1 then 1 else 0 := by
  have h : w = 0#1 ∨ w = 1#1 := by revert w; decide
  rcases h with rfl | rfl <;> cases p <;> simp [IntOp.andi, FloatOps.uitofp]

/-- Membership. -/
theorem mem_eq (s : State Ideal) (b : Fin 4) (p : Fin 262144) (k : Fin 5) :
    b36 0 s (ix3 b p k) = mem (fgs s b) (cen s b) p k := by
  pointwise [b36,b35,b34,b33,b32,b31,b30,b29,b28,b27,b26]
  rw [label_eq, word_eq, uitofp_and]
  simp [mem, fgs]

/-- The number of members. -/
theorem size_eq (s : State Ideal) (b : Fin 4) (k : Fin 5) : b38 0 s (ix2 b k) = size (fgs s b) (cen s b) k := by
  pointwise [b38, b37]
  simp only [mem_eq]
  rfl

/-- The mean of the members. -/
theorem mean_eq (s : State Ideal) (b : Fin 4) (k : Fin 5) (i : Fin 2) : b46 0 s (ix3 b k i)
    = Ideal.div (∑ p, mem (fgs s b) (cen s b) p k * coord p i) (max (size (fgs s b) (cen s b) k) 1) := by
  pointwise [b46,b45,b44,b43,b42,b41,b40,b39]
  simp only [mem_eq, size_eq, coord_eq]

/-- The root of the least distance at the set pixels, `⊥` at the others. -/
theorem least_eq (s : State Ideal) (b : Fin 4) (p : Fin 262144) : b53 0 s (ix2 b p)
    = if fgs s b p = true then Ideal.sqrt (dst (cen s b) p (lab (cen s b) p)) else ⊥ := by
  pointwise [b53,b52,b51,b50,b49,b48,b47]
  rw [bits_bot, bits_top]
  have h : ∀ k, b21 0 s (ix3 b p k) = Ideal.sqrt (dst (cen s b) p k) := fun k => by
    pointwise [b21]
    rw [dst_eq]
  simp only [h]
  rw [fold_min_eq _ _ (lab (cen s b) p) (Finset.mem_univ _) fun k _ =>
    (sqrt_le (dst_nonneg _ _ _) (dst_nonneg _ _ _)).mpr (lab_le _ _ _)]
  unfold Scalar.select fgs
  split_ifs <;> simp_all

/-- The farthest pixel. -/
theorem far_eq (s : State Ideal) (b : Fin 4) : b55 0 s (ix2 b 0) = BitVec.ofNat 32 (far (fgs s b) (cen s b)).val := by
  unfold b55
  rw [topK_pixel]
  refine congrArg (fun k : Fin 262144 => BitVec.ofNat 32 k.val) (arg_congr fun i j => ?_)
  rw [least_eq, least_eq]
  split_ifs
  · exact sqrt_lt (dst_nonneg _ _ _) (dst_nonneg _ _ _)
  · simp
  · exact ⟨fun _ => lt_of_lt_of_le EReal.bot_lt_zero (dst_nonneg _ _ _), fun _ => bot_lt_sqrt (dst_nonneg _ _ _)⟩
  · simp

/-- The farthest pixel's coordinates. -/
theorem farRow_eq (s : State Ideal) (b : Fin 4) (i : Fin 2) : b64 0 s (ix3 b 0 i) = coord (far (fgs s b) (cen s b)) i := by
  rw [← coord_eq]
  refine gather_rows _ _ (b63 0 s) b 0 i _ ?_
  pointwise [b63,b62,b61,b60,b59,b58,b57,b56]
  rw [far_eq]
  exact wrap _

/-- One round moves every mask's centroids. -/
theorem next_eq (s : State Ideal) (b : Fin 4) : cen (step 0 s) b = next (fgs s b) (cen s b) := by
  funext k i
  unfold cen
  rw [step_main_v89_5]
  pointwise [b71,b70,b69,b68,b67,b66,b65]
  rw [size_eq, mean_eq, farRow_eq]
  rfl

end Cert.ReferenceIdeal.Hand

end
-- ==== Proof.RI.Prefix.lean ====
/-
  What the reference's operations before its loop leave: the two keyed hashes and the noise, the tables, the starting
  centroids. One stretch of operations at a time, each from contents that hold the values the stretch before it made.
-/
module

public import proofs.«01_k».proof.Proof.Gen.ReferenceIdeal.Run
public import proofs.«01_k».proof.Proof.Gen.ReferenceIdeal.Step

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The contents `V` hold the state `s`: the carried centroids, labels and count, the set pixels, and the two tables (the
    squared norms and the coordinates) that every trip reads. -/
structure Shows (V : Valuation τ sig (Elt F)) (s : State F) : Prop where
  cents : V (Proc.devRef .tc main_v89_5) = s.main_v89_5
  labels : V (Proc.devRef .tc main_v89_6) = s.main_v89_6
  count : V (Proc.devRef .tc main_v89_7) = s.main_v89_7
  fg : V (Proc.devRef .tc main_v89_2) = s.main_v89_2
  norms : V (Proc.devRef .tc main_v89_0) = K_main_v78 (F := F)
  coords : V (Proc.devRef .tc main_v89_1) = K_main_v69 (F := F)

variable (V : Valuation τ sig (Elt F))

set_option maxRecDepth 65536 in
set_option maxHeartbeats 1500000 in
/-- The first stretch makes the seed's two words and the four counters' words. -/
theorem seed : after hostOps0 V (Proc.devRef .tc main_v8) = K_main_v8 (F := F)
    ∧ after hostOps0 V (Proc.devRef .tc main_v10) = K_main_v10 (F := F)
    ∧ after hostOps0 V (Proc.devRef .tc main_v16) = K_main_v16 (F := F)
    ∧ after hostOps0 V (Proc.devRef .tc main_v17) = K_main_v17 (F := F) := by
  refine ⟨?_, ?_, ?_, ?_⟩ <;> (after_reads_simp <;> rfl)

set_option maxRecDepth 65536 in
set_option maxHeartbeats 1500000 in
/-- The second stretch hashes them into the four masks' keys. -/
theorem keys (h8 : V (Proc.devRef .tc main_v8) = K_main_v8 (F := F)) (h10 : V (Proc.devRef .tc main_v10) = K_main_v10 (F := F))
    (h16 : V (Proc.devRef .tc main_v16) = K_main_v16 (F := F)) (h17 : V (Proc.devRef .tc main_v17) = K_main_v17 (F := F)) :
    after hostOps0_1 V (Proc.devRef .tc main_v18_0) = K_main_v18_0 (F := F)
    ∧ after hostOps0_1 V (Proc.devRef .tc main_v18_1) = K_main_v18_1 (F := F) := by
  refine ⟨?_, ?_⟩ <;> (after_reads_simp [TRef.ofBuf_toBuf]; simp only [h8, h10, h16, h17]; rfl)

set_option maxRecDepth 65536 in
set_option maxHeartbeats 1500000 in
/-- The third stretch lays out the keys and the pixels' counters. -/
theorem layout (h0 : V (Proc.devRef .tc main_v18_0) = K_main_v18_0 (F := F))
    (h1 : V (Proc.devRef .tc main_v18_1) = K_main_v18_1 (F := F)) :
    after hostOps0_2 V (Proc.devRef .tc main_v22) = K_main_v22 (F := F)
    ∧ after hostOps0_2 V (Proc.devRef .tc main_v23) = K_main_v23 (F := F)
    ∧ after hostOps0_2 V (Proc.devRef .tc main_v35) = K_main_v35 (F := F)
    ∧ after hostOps0_2 V (Proc.devRef .tc main_v36) = K_main_v36 (F := F)
    ∧ after hostOps0_2 V (Proc.devRef .tc main_v37) = K_main_v37 (F := F)
    ∧ after hostOps0_2 V (Proc.devRef .tc main_v38) = K_main_v38 (F := F) := by
  have a : after hostOps0_2 V (Proc.devRef .tc main_v21) = K_main_v21 (F := F) := by
    have p : after hostOps0_2 V (Proc.devRef .tc main_v19) = K_main_v19 (F := F) := by after_reads_simp; rw [h0]; rfl
    have q : after hostOps0_2 V (Proc.devRef .tc main_v20) = K_main_v20 (F := F) := by after_reads_simp; rw [h1]; rfl
    have r : after hostOps0_2 V (Proc.devRef .tc main_v21)
        = concatenate S4x2 1 [⟨S4x1, after hostOps0_2 V (Proc.devRef .tc main_v19)⟩, ⟨S4x1, after hostOps0_2 V (Proc.devRef .tc main_v20)⟩]
          concatenates_S4x1_S4x1_S4x2_d1 := by after_reads_simp; rfl
    rw [r, p, q]; rfl
  have b : after hostOps0_2 V (Proc.devRef .tc main_v37)
      = broadcastInDim S4x1 ![0] bcast_S4_S4x1_0 (shapeCast _ (extractStridedSlice S4x1 ![0, 0]
          (after hostOps0_2 V (Proc.devRef .tc main_v21)) slices_S4x2_S4x1_0_0) shapeCasts_S4x1_S4) := by after_reads_simp; rfl
  have c : after hostOps0_2 V (Proc.devRef .tc main_v38)
      = broadcastInDim S4x1 ![0] bcast_S4_S4x1_0 (shapeCast _ (extractStridedSlice S4x1 ![0, 1]
          (after hostOps0_2 V (Proc.devRef .tc main_v21)) slices_S4x2_S4x1_0_1) shapeCasts_S4x1_S4) := by after_reads_simp; rfl
  refine ⟨?_, ?_, ?_, ?_, by rw [b, a]; rfl, by rw [c, a]; rfl⟩ <;> (after_reads_simp <;> rfl)

set_option maxRecDepth 65536 in
set_option maxHeartbeats 1500000 in
/-- The fourth stretch hashes them into two words a pixel, and leaves the bounds of the noise. -/
theorem hashes (h35 : V (Proc.devRef .tc main_v35) = K_main_v35 (F := F)) (h36 : V (Proc.devRef .tc main_v36) = K_main_v36 (F := F))
    (h37 : V (Proc.devRef .tc main_v37) = K_main_v37 (F := F)) (h38 : V (Proc.devRef .tc main_v38) = K_main_v38 (F := F)) :
    after hostOps0_3 V (Proc.devRef .tc main_v39_0) = K_main_v39_0 (F := F)
    ∧ after hostOps0_3 V (Proc.devRef .tc main_v39_1) = K_main_v39_1 (F := F)
    ∧ after hostOps0_3 V (Proc.devRef .tc main_v22) = V (Proc.devRef .tc main_v22)
    ∧ after hostOps0_3 V (Proc.devRef .tc main_v23) = V (Proc.devRef .tc main_v23) := by
  refine ⟨?_, ?_, by after_reads_simp, by after_reads_simp⟩ <;>
    (after_reads_simp [TRef.ofBuf_toBuf]; simp only [h35, h36, h37, h38]; rfl)

set_option maxRecDepth 65536 in
set_option maxHeartbeats 1500000 in
/-- The last stretch makes the noise, the tables and the first state. -/
theorem tables (h0 : V (Proc.devRef .tc main_v39_0) = K_main_v39_0 (F := F)) (h1 : V (Proc.devRef .tc main_v39_1) = K_main_v39_1 (F := F))
    (h22 : V (Proc.devRef .tc main_v22) = K_main_v22 (F := F)) (h23 : V (Proc.devRef .tc main_v23) = K_main_v23 (F := F)) :
    Shows (after hostOps0_4 V) (init (V (Proc.devRef .tc main_arg0))) := by
  constructor <;> (after_reads_simp; (try simp only [h0, h1, h22, h23]) <;> rfl)

/-- What @main's operations before the loop leave. -/
theorem entry (m : (ℓ : Loc nD τ sig) → Buf (Elt F) ℓ) (c : Dev nD) :
    Shows (entryContents preI m c) (init (m ((c.tc : Thread nD τ).loc main_arg0))) := by
  show Shows (after hostOps0_4 (after hostOps0_3 (after hostOps0_2 (after hostOps0_1 (after hostOps0 (launchContents m c)))))) _
  obtain ⟨a1, a2, a3, a4⟩ := seed (launchContents m c)
  obtain ⟨b1, b2⟩ := keys _ a1 a2 a3 a4
  obtain ⟨c1, c2, c3, c4, c5, c6⟩ := layout _ b1 b2
  obtain ⟨d1, d2, d3, d4⟩ := hashes _ c3 c4 c5 c6
  have t := tables _ d1 d2 (d3.trans c1) (d4.trans c2)
  rw [keep_main_arg0_hostOps0_3, keep_main_arg0_hostOps0_2, keep_main_arg0_hostOps0_1, keep_main_arg0_hostOps0] at t
  exact t

end Cert.ReferenceIdeal.Hand

end
-- ==== Proof.RI.Iter.lean ====
/-
  The reference's run over the step of its loop: what the operations before the loop leave, one trip from any contents that
  hold a state, and the result of the whole program as a function of the tenth state.
-/
module

public import proofs.«01_k».proof.Proof.RI.Prefix

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

section
variable {V : Valuation τ sig (Elt F)} {s : State F}

set_option maxRecDepth 8192 in
/-- The distances of one trip. -/
theorem trip_dist (h : Shows V s) : res_main_while0b_v133 V = b21 0 s := by
  unfold res_main_while0b_v133; rw [h.cents, h.norms, h.coords]; rfl

set_option maxRecDepth 8192 in
/-- The labels of one trip. -/
theorem trip_labels (h : Shows V s) : res_main_while0b_v135 V = b25 0 s := by
  unfold res_main_while0b_v135 res_main_while0b_v134; rw [trip_dist h]; rfl

set_option maxRecDepth 8192 in
/-- The memberships of one trip. -/
theorem trip_members (h : Shows V s) : res_main_while0b_v146 V = b36 0 s := by
  unfold res_main_while0b_v146; rw [trip_labels h, h.fg]; rfl

set_option maxRecDepth 8192 in
/-- The clusters' counts of one trip. -/
theorem trip_counts (h : Shows V s) : res_main_while0b_v147 V = b38 0 s := by
  unfold res_main_while0b_v147; rw [trip_members h]; rfl

set_option maxRecDepth 8192 in
/-- The farthest pixel of one trip. -/
theorem trip_far (h : Shows V s) : res_main_while0b_indices_40 V = b55 0 s := by
  unfold res_main_while0b_indices_40 res_main_while0b_v156; rw [trip_dist h, h.fg]; rfl

set_option maxRecDepth 8192 in
/-- The new centroids of one trip. -/
theorem trip_cents (h : Shows V s) : Value.step_main_v89_5 V = (step 0 s).main_v89_5 := by
  unfold Value.step_main_v89_5; rw [trip_counts h, trip_members h, trip_far h, h.coords]; rfl

set_option maxRecDepth 8192 in
/-- One trip takes contents that hold `s` to contents that hold its step. -/
theorem trip (h : Shows V s) : Shows (STEP V) (step 0 s) where
  cents := (STEP_main_v89_5 V).trans (trip_cents h)
  labels := (STEP_main_v89_6 V).trans (trip_labels h)
  count := (STEP_main_v89_7 V).trans (by unfold Value.step_main_v89_7; rw [h.fg]; rfl)
  fg := (STEP_main_v89_2 V).trans h.fg
  norms := (STEP_main_v89_0 V).trans h.norms
  coords := (STEP_main_v89_1 V).trans h.coords
end

variable (m : (ℓ : Loc nD τ sig) → Buf (Elt F) ℓ) (c : Dev nD)

/-- The states of the loop. -/
def state (x : (⟨S2x1x2x512x512, .f32⟩ : BufTy).Contents (Elt F)) : ℕ → State F
  | 0 => init x
  | n + 1 => step 0 (state x n)

/-- After `n` trips the contents hold state `n`. -/
theorem trips : ∀ n, Shows (STEP^[n] (entryContents preI m c)) (state (m ((c.tc : Thread nD τ).loc main_arg0)) n)
  | 0 => entry m c
  | n + 1 => by rw [Function.iterate_succ_apply']; exact trip (trips n)

set_option maxRecDepth 8192 in
/-- THE RUN: the result is the tenth state's labels and count turned into masks; the argument is unchanged. -/
theorem run_state (ρ : Dev nD → PrngReg) :
    θ_run (defs (F := F)) (onTc (τ := τ) (main (F := F))) ⟨m, fun _ => 0, ρ⟩ fun r => ∀ c : Dev nD,
      r.2.mem ((c.tc : Thread nD τ).loc main_v115)
        = R_main_v115 (state (m ((c.tc : Thread nD τ).loc main_arg0)) 10) (m ((c.tc : Thread nD τ).loc main_arg0))
      ∧ r.2.mem ((c.tc : Thread nD τ).loc main_arg0) = m ((c.tc : Thread nD τ).loc main_arg0) :=
  (θ_run defs _ _).mono (fun _ h c => ⟨(h c).1.trans (by
      unfold out_main_v115; rw [(trips m c 10).count, (trips m c 10).labels, iter_main_arg0 m c 10]; rfl), (h c).2⟩) (Value.run m ρ)

end Cert.ReferenceIdeal.Hand

end
-- ==== Proof.RI.Result.lean ====
/-
  The reference's state after `n` rounds, and its result.
-/
module

public import proofs.«01_k».proof.Proof.RI.Rounds
public import proofs.«01_k».proof.Proof.RI.Iter

@[expose] public section

noncomputable section

namespace Cert.ReferenceIdeal.Hand

open Cert.ReferenceIdeal Cert.ReferenceIdeal.Gen Cert.ReferenceIdeal.Step Cert.Means
open Idealize.ShloMosaic Idealize.SL.Sem Pointwise

/-- The argument's array. -/
abbrev Arg : Type := (⟨S2x1x2x512x512, .f32⟩ : BufTy).Contents (Elt Ideal)

/-- The set pixels of mask `b`. -/
def fgx (x : Arg) (b : Fin 4) (p : Fin 262144) : Bool :=
  decide (x (ix5 ⟨b.val / 2, by omega⟩ 0 ⟨b.val % 2, by omega⟩ ⟨p.val / 512, by omega⟩ ⟨p.val % 512, by omega⟩) ≠ 0)

/-- The noise of mask `b`. -/
def noise (b : Fin 4) (p : Fin 262144) : EReal := K_main_v57 (F := Ideal) (ix2 b p)

/-- The scores of mask `b`. -/
abbrev score (x : Arg) (b : Fin 4) : Fin 262144 → EReal := scoreOf (noise b) (fgx x b)

/-- The noise is from zero on. -/
theorem noise_nonneg (b : Fin 4) (p : Fin 262144) : 0 ≤ noise b p := by
  unfold noise K_main_v57 K_main_v56 K_main_v55 K_main_v22 K_main_cst
  pointwise
  exact le_max_left _ _

/-- The set pixels' words. -/
theorem mask_eq (x : Arg) (b : Fin 4) (p : Fin 262144) : A_main_v72 x (ix2 b p) = BitVec.ofBool (fgx x b p) := by
  pointwise [A_main_v72,A_main_v70,A_main_v59,A_main_v58,K_main_v71,K_main_cst_10]
  rfl

/-- The scores. -/
theorem score_eq (x : Arg) (b : Fin 4) (p : Fin 262144) : A_main_v76 x (ix2 b p) = score x b p := by
  pointwise [A_main_v76,A_main_v75,A_main_v73,K_main_v74,K_main_cst_11]
  rw [mask_eq]
  unfold score scoreOf noise
  cases fgx x b p <;> simp [FloatOps.uitofp]

/-- The word of ten is from zero on. -/
theorem ten_nonneg : (0 : EReal) ≤ Ideal.ofBits .f32 0x41200000#32 := by
  have : Ideal.ofBits .f32 0x41200000#32 = ((10 : ℝ) : EReal) := by
    simp [Ideal.ofBits, Ideal.ieee, -EReal.coe_mul]; norm_num
  rw [this]
  exact_mod_cast (by norm_num : (0 : ℝ) ≤ 10)

/-- No score is `⊥`. -/
theorem score_ne (x : Arg) (b : Fin 4) (p : Fin 262144) : score x b p ≠ ⊥ := by
  refine (lt_of_lt_of_le EReal.bot_lt_zero (add_nonneg (noise_nonneg b p) ?_)).ne'
  split_ifs
  · exact ten_nonneg
  · exact le_rfl

/-- The starting centroids. -/
theorem start_eq (x : Arg) (b : Fin 4) : cen (init x) b = after (fgx x b) (score x b) 0 := by
  funext k i
  show A_main_v85 x (ix3 b k i) = coord (choice (score x b) k.val) i
  rw [← coord_eq]
  refine gather_rows _ _ (A_main_v84 x) b k i _ ?_
  have h : A_main_indices x (ix2 b k) = BitVec.ofNat 32 (choice (score x b) k.val).val := by
    unfold A_main_indices
    rw [topK_five _ _ _ (fun p => by rw [score_eq]; exact score_ne x b p)]
    simp only [score_eq]
  pointwise [A_main_v84,A_main_v83,A_main_v82,A_main_v80,K_main_v81,K_main_v79,K_main_c_13,K_main_c_14]
  rw [h]
  exact wrap _

/-- The set pixels do not change. -/
theorem fgs_state (x : Arg) (b : Fin 4) (n : ℕ) : fgs (state x n) b = fgx x b := by
  induction n with
  | zero =>
    funext p
    show decide (A_main_v72 x (ix2 b p) = 1#1) = _
    rw [mask_eq]
    cases fgx x b p <;> rfl
  | succ n ih =>
    have h : (step 0 (state x n)).main_v89_2 = (state x n).main_v89_2 := by unfold step; rfl
    funext p
    show decide ((step 0 (state x n)).main_v89_2 (ix2 b p) = 1#1) = _
    rw [h]
    exact congrFun ih p

/-- The centroids after `n` rounds. -/
theorem cen_state (x : Arg) (b : Fin 4) (n : ℕ) : cen (state x n) b = after (fgx x b) (score x b) n := by
  induction n with
  | zero => exact start_eq x b
  | succ n ih =>
    show cen (step 0 (state x n)) b = _
    rw [next_eq, fgs_state, ih]
    rfl

/-- The labels after ten rounds are those of the centroids after nine. -/
theorem labels_state (x : Arg) (b : Fin 4) (p : Fin 262144) :
    (state x 10).main_v89_6 (ix2 b p) = BitVec.ofNat 32 (lab (after (fgx x b) (score x b) 9) p).val := by
  show b25 0 (state x 9) (ix2 b p) = _
  rw [label_eq, cen_state]

/-- The number of set pixels. -/
theorem count_state (x : Arg) (b : Fin 4) :
    (state x 10).main_v89_7 (ix1 b) = ∑ p, if fgx x b p = true then (1 : EReal) else 0 := by
  show b74 0 (state x 9) (ix1 b) = _
  have h : ∀ p, (state x 9).main_v89_2 (ix2 b p) = BitVec.ofBool (fgx x b p) := fun p => by
    rw [← fgs_state x b 9]
    unfold fgs
    generalize (state x 9).main_v89_2 (ix2 b p) = w
    revert w; decide
  pointwise [b74, b73, b72]
  refine Finset.sum_congr rfl fun p _ => ?_
  rw [h]
  cases fgx x b p <;> simp [FloatOps.uitofp]

/-- The mask of a pair of indices. -/
def at2 (a b : Fin 2) : Fin 4 := ⟨a.val * 2 + b.val, by omega⟩

/-- The set pixels, by row and column. -/
theorem fgx_px (x : Arg) (a b : Fin 2) (r c : Fin 512) : fgx x (at2 a b) (px r c) = decide (x (ix5 a 0 b r c) ≠ 0) := by
  have ha : (⟨(at2 a b).val / 2, by omega⟩ : Fin 2) = a := Fin.ext (by simp only [at2]; omega)
  have hb : (⟨(at2 a b).val % 2, by omega⟩ : Fin 2) = b := Fin.ext (by simp only [at2]; omega)
  have hr : (⟨(px r c).val / 512, by omega⟩ : Fin 512) = r := Fin.ext (by simp only [px]; omega)
  have hc : (⟨(px r c).val % 512, by omega⟩ : Fin 512) = c := Fin.ext (by simp only [px]; omega)
  unfold fgx
  rw [ha, hb, hr, hc]

/-- A bit is set when the statement it holds is true. -/
theorem bit_iff (p : Bool) : BitVec.ofBool p = 1#1 ↔ p = true := by cases p <;> decide

/-- The reference's result. -/
theorem result_eq (x : Arg) (a b : Fin 2) (k : Fin 5) (r c : Fin 512) : R_main_v115 (state x 10) x (ix5 a b k r c)
    = result (fgx x (at2 a b)) (noise (at2 a b)) (x (ix5 a 0 b r c)) (px r c) k := by
  have hc := count_state x (at2 a b)
  have hl := labels_state x (at2 a b) (px r c)
  have hf := fgx_px x a b r c
  generalize state x 10 = s at hc hl
  pointwise [R_main_v115]
  unfold result
  have e : s.main_v89_7 (ix1 ⟨a.val * 2 + b.val, by omega⟩) = _ := hc
  have e' : s.main_v89_6 (ix2 ⟨a.val * 2 + b.val, by omega⟩ ⟨r.val * 512 + c.val, by omega⟩) = _ := hl
  rw [e, e', word_eq, uitofp_and, hf]
  have hk : k.val < 1 ↔ k = 0 := by revert k; decide
  simp only [hk]
  by_cases h1 : (∑ p, if fgx x (at2 a b) p = true then (1 : EReal) else 0) ≤ Ideal.ofBits .f32 0x40A00000#32
  · rw [if_pos h1, if_pos h1]
    by_cases h2 : k = 0
    · subst h2; rfl
    · rw [if_neg h2, dif_neg h2]
  · rw [if_neg h1, if_neg h1]
    refine if_congr (and_congr (decide_eq_true_iff ..) (bit_iff _)) rfl rfl

end Cert.ReferenceIdeal.Hand

end
-- ==== Proof.PI.Value.lean ====
/-
  The array of results after the run, and the program's result.
-/
module

public import proofs.«01_k».proof.Proof.PI.Block
public import proofs.«01_k».proof.Proof.PI.Entry
public import proofs.«01_k».proof.Proof.RI.Result
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.SL.Sem Pointwise Cert.Means
open Cert.ReferenceIdeal.Hand (fgx noise at2 Arg)

variable (m : (ℓ : Loc nD τ sig) → Buf (Elt Ideal) ℓ) (c : Dev nD)

/-- The argument. -/
abbrev arg0 : Arg := m ((c : Thread nD τ).loc main_arg0)

/-- The masks' block at a point. -/
theorem idx0 : ∀ t : Fin cfg0.N, win0_0.index t = ![t.val, 0, 0] := (by decide +kernel : ∀ t : Fin grid0.N, _)
/-- The noise's block at a point. -/
theorem idx1 : ∀ t : Fin cfg0.N, win0_1.index t = ![t.val, 0, 0] := (by decide +kernel : ∀ t : Fin grid0.N, _)
/-- The results' block at a point. -/
theorem idx2 : ∀ t : Fin cfg0.N, win0_2.index t = ![t.val, 0, 0, 0] := (by decide +kernel : ∀ t : Fin grid0.N, _)

/-- The mask at place `j` of point `t`'s block. -/
def maskAt (t : Fin cfg0.N) (j : Fin 2) : Fin 4 := ⟨2 * t.val + j.val, by have : t.val < 2 := t.isLt; omega⟩

/-- The argument as a stack of masks. -/
theorem masks_read (x : Arg) (b : Fin 4) (r c' : Fin 512) :
    shapeCast S4x512x512 (shapeCast S2x2x512x512 x shapeCasts_S2x1x2x512x512_S2x2x512x512) shapeCasts_S2x2x512x512_S4x512x512 (ix3 b r c')
      = x (ix5 ⟨b.val / 2, by omega⟩ 0 ⟨b.val % 2, by omega⟩ r c') := by
  pointwise

/-- The masks' array. -/
theorem masks_eq (b : Fin 4) (r c' : Fin 512) : V m c main_call0_v1 (ix3 b r c')
    = arg0 m c (ix5 ⟨b.val / 2, by omega⟩ 0 ⟨b.val % 2, by omega⟩ r c') :=
  (congrFun (entry_masks m c) (ix3 b r c')).trans (masks_read _ b r c')

/-- A stack of planes read from a stack of rows. -/
theorem noise_read (u : FVec Ideal S4x262144 .f32) (b : Fin 4) (r c' : Fin 512) :
    shapeCast S4x512x512 u shapeCasts_S4x262144_S4x512x512 (ix3 b r c') = u (ix2 b (px r c')) := by
  unfold shapeCast
  refine congrArg u (Shape.reshapeEquiv_eq_of_vals _ _ _ (b.val * 262144 + (px r c').val) (b.val * 262144 + r.val * 512 + c'.val)
    ((rowMajor_val2 (ix2 b (px r c')) 262144 rfl).trans rfl) ((rowMajor_val3 (ix3 b r c') 262144 512 (by decide) rfl).trans rfl) ?_)
  have hp : (px r c').val = r.val * 512 + c'.val := rfl
  rw [hp, Nat.add_assoc]

/-- The noise's array. -/
theorem noise_eq (b : Fin 4) (r c' : Fin 512) : V m c main_call0_v11 (ix3 b r c') = noise b (px r c') :=
  (congrFun (entry_noise m c) (ix3 b r c')).trans (noise_read _ b r c')

/-- The first window's block of an array. -/
theorem read0 (A : FVec Ideal S4x512x512 .f32) (t : Fin cfg0.N) (j : Fin 2) (r c' : Fin 512) :
    ((cfg0.win 0).blk t).view.read (Elt Ideal) A (ix3 j r c') = A (ix3 (maskAt t j) r c') := by
  show A (((cfg0.win 0).blk t).view.emb (ix3 j r c')) = _
  refine congrArg A ?_
  funext a
  refine Fin.ext ?_
  match a with
  | ⟨0, _⟩ => blk_simp [idx0]; simp [maskAt]; omega
  | ⟨1, _⟩ => blk_simp [idx0]; try simp
  | ⟨2, _⟩ => blk_simp [idx0]; try simp

/-- A point's block of the masks. -/
theorem xblk_read (t : Fin cfg0.N) (j : Fin 2) (r c' : Fin 512) : xblk m c t (ix3 j r c')
    = V m c main_call0_v1 (ix3 (maskAt t j) r c') := by
  unfold xblk iblk
  exact read0 (V m c main_call0_v1) t j r c'

/-- A point's masks are the argument's. -/
theorem xblk_eq (t : Fin cfg0.N) (j : Fin 2) (r c' : Fin 512) : xblk m c t (ix3 j r c')
    = arg0 m c (ix5 ⟨(maskAt t j).val / 2, by omega⟩ 0 ⟨(maskAt t j).val % 2, by omega⟩ r c') :=
  (xblk_read m c t j r c').trans (masks_eq m c _ r c')

/-- A point's noise. -/
theorem ublk_eq (t : Fin cfg0.N) (j : Fin 2) (r c' : Fin 512) : ublk m c t (ix3 j r c') = noise (maskAt t j) (px r c') := by
  rw [← noise_eq m c]
  unfold ublk
  blk_simp [iblk]
  refine congrArg (V m c main_call0_v11) ?_
  funext a
  refine Fin.ext ?_
  match a with
  | ⟨0, _⟩ => blk_simp [idx1]; simp [maskAt]; omega
  | ⟨1, _⟩ => blk_simp [idx1]; try simp
  | ⟨2, _⟩ => blk_simp [idx1]; try simp

/-- The set pixels of a member of a block. -/
theorem fgk_member (t : Fin cfg0.N) (j : Fin 2) : fgk (member (xblk m c t) j) = fgx (arg0 m c) (maskAt t j) := by
  funext p
  unfold fgk member
  show decide (xblk m c t (ix3 j ⟨p.val / 512, _⟩ ⟨p.val % 512, _⟩) ≠ 0) = _
  rw [xblk_eq]
  rfl

/-- The noise of a member of a block. -/
theorem uk_member (t : Fin cfg0.N) (j : Fin 2) : uk (member (ublk m c t) j) = noise (maskAt t j) := by
  funext p
  unfold uk member
  show ublk m c t (ix3 j ⟨p.val / 512, _⟩ ⟨p.val % 512, _⟩) = _
  rw [ublk_eq]
  refine congrArg (noise _) (Fin.ext ?_)
  simp only [px]
  omega

/-- The array of results in closed form. -/
def total (x : Arg) : Vec Ideal S4x5x512x512 .f32 := fun y =>
  result (fgx x (y 0)) (noise (y 0)) (x (ix5 ⟨(y 0).val / 2, by have : (y 0).val < 4 := (y 0).isLt; omega⟩ 0 ⟨(y 0).val % 2, by omega⟩ (y 2) (y 3)))
    (px (y 2) (y 3)) (y 1)

/-- A point's block in the array of results. -/
theorem closed_eq (t : Fin cfg0.N) (j : Fin 2) (k : Fin 5) (r c' : Fin 512) :
    closed (xblk m c t) (ublk m c t) (ix4 j k r c') = total (arg0 m c) (ix4 (maskAt t j) k r c') := by
  show result (fgk (member (xblk m c t) j)) (uk (member (ublk m c t) j)) (xblk m c t (ix3 j r c')) (px r c') k = _
  rw [fgk_member, uk_member, xblk_eq]
  rfl

/-- The array of results after the run. -/
theorem final_eq : (dats m 0 c).arrAt 2 cfg0.N = total (arg0 m c) := by
  refine (dats m 0 c).arrAt_eq_of_covers 2 _ (by decide +kernel) fun t hf y => ?_
  blk_simp
  rw [after0_2, block_eq]
  have e : (win0_2.blk t).view.emb y = ix4 (maskAt t (y 0)) (y 1) (y 2) (y 3) := by
    funext a
    refine Fin.ext ?_
    match a with
    | ⟨0, _⟩ => blk_simp [idx2]; simp [maskAt]; omega
    | ⟨1, _⟩ => blk_simp [idx2]; simp
    | ⟨2, _⟩ => blk_simp [idx2]; simp
    | ⟨3, _⟩ => blk_simp [idx2]; simp
  rw [e]
  exact closed_eq m c t (y 0) (y 1) (y 2) (y 3)

set_option maxRecDepth 65536 in
/-- The program's result in terms of the array. -/
theorem tail_eq : Pipeline.afterTail₀ cfgs (dats m) 0 (V0 m) [hostOps1] c main_v0
    = shapeCast S2x2x5x512x512 (total (arg0 m c)) shapeCasts_S4x5x512x512_S2x2x5x512x512 := by
  rw [← final_eq]
  unfold Pipeline.afterTail₀
  simp only [List.flatten_cons, List.flatten_nil, List.append_nil]
  after_reads_simp [StableHlo.TRef.ofBuf_toBuf]
  have h := Pipeline.withArrays_arr (cfgs 0).spec (by decide) c (V0 m c) (fun w => (dats m 0 c).arrAt w (cfgs 0).N) 2
  exact congrArg (fun a : Vec Ideal S4x5x512x512 .f32 => shapeCast S2x2x5x512x512 a shapeCasts_S4x5x512x512_S2x2x5x512x512) h

/-- The result at an index. -/
theorem total_read (x : Arg) (a b : Fin 2) (k : Fin 5) (r c' : Fin 512) :
    shapeCast S2x2x5x512x512 (total x) shapeCasts_S4x5x512x512_S2x2x5x512x512 (ix5 a b k r c')
      = result (fgx x (at2 a b)) (noise (at2 a b)) (x (ix5 a 0 b r c')) (px r c') k := by
  have h : shapeCast S2x2x5x512x512 (total x) shapeCasts_S4x5x512x512_S2x2x5x512x512 (ix5 a b k r c') = total x (ix4 (at2 a b) k r c') := by
    generalize total x = y
    pointwise
    rfl
  rw [h]
  have ha : (⟨(at2 a b).val / 2, by omega⟩ : Fin 2) = a := Fin.ext (by simp only [at2]; omega)
  have hb : (⟨(at2 a b).val % 2, by omega⟩ : Fin 2) = b := Fin.ext (by simp only [at2]; omega)
  show result _ _ (x (ix5 ⟨(at2 a b).val / 2, _⟩ 0 ⟨(at2 a b).val % 2, _⟩ r c')) _ _ = _
  rw [ha, hb]
  rfl

/-- The kernel's result is the reference's. -/
theorem same (x : Arg) : shapeCast S2x2x5x512x512 (total x) shapeCasts_S4x5x512x512_S2x2x5x512x512
    = Cert.ReferenceIdeal.Step.R_main_v115 (Cert.ReferenceIdeal.Hand.state x 10) x := by
  funext y
  obtain ⟨a, b, k, r, c', rfl⟩ : ∃ a b k r c', y = ix5 a b k r c' := ⟨y 0, y 1, y 2, y 3, y 4, by
    funext a
    match a with
    | ⟨0, _⟩ => rfl
    | ⟨1, _⟩ => rfl
    | ⟨2, _⟩ => rfl
    | ⟨3, _⟩ => rfl
    | ⟨4, _⟩ => rfl⟩
  exact (total_read x a b k r c').trans (Cert.ReferenceIdeal.Hand.result_eq x a b k r c').symm

/-- THE RUN with its result: the reference's value of the argument, and the argument as launched. -/
theorem value_run (ρ : Dev nD → PrngReg) : θ_run defs (onTc (τ := τ) (main (F := Ideal))) ⟨m, fun _ => 0, ρ⟩ (fun r => ∀ c : Dev nD,
      r.2.mem ((c.tc : Thread nD τ).loc main_v0)
        = Cert.ReferenceIdeal.Step.R_main_v115 (Cert.ReferenceIdeal.Hand.state (arg0 m c) 10) (arg0 m c)
      ∧ r.2.mem ((c.tc : Thread nD τ).loc main_arg0) = m ((c.tc : Thread nD τ).loc main_arg0)) :=
  (θ_run defs _ _).mono (fun _ h c =>
    ⟨((h.1 c).2 main_v0 (Pipeline.mem_restRefs_of main_v0 (by decide) (by decide))).trans ((tail_eq m c).trans (same _)),
     ((h.1 c).2 main_arg0 (Pipeline.mem_restRefs_of main_arg0 (by decide) (by decide))).trans (W_main_arg0 m (dats m) c)⟩)
    (run_main m ρ)

end Cert.KernelIdeal.Hand

end
-- ==== Proof.lean ====
module

public import proofs.«01_k».proof.Defs
public import proofs.«01_k».proof.Proof.P.Run
public import proofs.«01_k».proof.Proof.PI.Value
public import proofs.«01_k».proof.Proof.RI.Iter
public import Idealize.ShloMosaic.Lib.Quiescent

@[expose] public section

noncomputable section

namespace Cert.Proof

open Idealize.ShloMosaic Idealize.SL.Sem

/-- The claims, under the generated side conditions of the three programs. -/
theorem claim : Cert.Claim :=
  ⟨Cert.Kernel.Gen.facts, Cert.KernelIdeal.Gen.facts, Cert.ReferenceIdeal.Gen.facts,
    fun m g _ => Cert.Kernel.Hand.frame_run m g,
    fun m g _ => Cert.KernelIdeal.Hand.frame_run m g,
    fun m g _ => (θ_run _ _ _).mono
      (fun r h => ⟨fun c => (h c).2, Idealize.ShloMosaic.sem_eq_zero_of_no_sems (by decide) r.2⟩) (Cert.ReferenceIdeal.Value.run m g),
    trivial,
    fun m g m' g' _ hm => ⟨_, Cert.KernelIdeal.Hand.value_run m g,
      (θ_run _ _ _).mono (fun _ h c => ⟨(h c).1.trans (by rw [hm c]), (h c).2⟩)
        (Cert.ReferenceIdeal.Hand.run_state (F := Ideal) m' g')⟩⟩

end Cert.Proof

end
